-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_of_clamp [hPre_clear_of_clamp : Cert.Pre_clear_of_clamp.Facts] (m : (ℓ : Loc Cert.KernelIdeal.nD Cert.KernelIdeal.τ Cert.KernelIdeal.sig) → Buf (Elt Ideal) ℓ) : Prop :=
  ∀ c : Dev Cert.KernelIdeal.nD,
    (Cert.Pre_clear_of_clamp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_of_clamp [hPre_clear_of_clamp : Cert.Pre_clear_of_clamp.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_of_clamp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clear_of_clamp [hKernelIdeal : Cert.KernelIdeal.Facts] [hPre_clear_of_clamp : Cert.Pre_clear_of_clamp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_of_clamp m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clear_of_clamp [hReferenceIdeal : Cert.ReferenceIdeal.Facts] [hPre_clear_of_clamp : Cert.Pre_clear_of_clamp.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_of_clamp m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "nrm" .f32 0x419CC471#32 ((Real.sqrt 384 : ℝ) : EReal)

def algebraic_KernelIdeal_ReferenceIdeal_on_segm_only [hKernelIdeal : Cert.KernelIdeal.Facts] [hReferenceIdeal : Cert.ReferenceIdeal.Facts] [hOn_segm_only : Cert.On_segm_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_segm_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v19) i = v0 c i)
          ∧ (∀ i : (⟨4, ![1, 1, 224, 224]⟩ : Shape).Idx, (Cert.On_segm_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v20) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_segm_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v82) i = v0 c i)
          ∧ (∀ i : (⟨4, ![1, 1, 224, 224]⟩ : Shape).Idx, (Cert.On_segm_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v104) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_clear_of_clamp [hKernelIdeal : Cert.KernelIdeal.Facts] [hReferenceIdeal : Cert.ReferenceIdeal.Facts] [hPre_clear_of_clamp : Cert.Pre_clear_of_clamp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_of_clamp m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clear_of_clamp : Cert.Pre_clear_of_clamp.Facts) (hOn_segm_only : Cert.On_segm_only.Facts),
    quiescent_Kernel (hKernel := hKernel)
    ∧ quiescent_KernelIdeal (hKernelIdeal := hKernelIdeal)
    ∧ quiescent_KernelIdeal_pre_clear_of_clamp (hKernelIdeal := hKernelIdeal) (hPre_clear_of_clamp := hPre_clear_of_clamp)
    ∧ quiescent_ReferenceIdeal (hReferenceIdeal := hReferenceIdeal)
    ∧ quiescent_ReferenceIdeal_pre_clear_of_clamp (hReferenceIdeal := hReferenceIdeal) (hPre_clear_of_clamp := hPre_clear_of_clamp)
    ∧ preserves_Kernel_KernelIdeal
    ∧ algebraic_KernelIdeal_ReferenceIdeal_on_segm_only (hKernelIdeal := hKernelIdeal) (hReferenceIdeal := hReferenceIdeal) (hOn_segm_only := hOn_segm_only)
    ∧ algebraic_KernelIdeal_ReferenceIdeal_pre_clear_of_clamp (hKernelIdeal := hKernelIdeal) (hReferenceIdeal := hReferenceIdeal) (hPre_clear_of_clamp := hPre_clear_of_clamp)
-- ==== On_segm_only.lean ====
abbrev S784x384 : Shape := ⟨2, ![784, 384]⟩
abbrev S100000x384 : Shape := ⟨2, ![100000, 384]⟩
abbrev S_ : Shape := ⟨0, ![]⟩
abbrev S1x1x224x224 : Shape := ⟨4, ![1, 1, 224, 224]⟩

class Facts : Prop where
  bcast_S_S1x1x224x224 : S_.BroadcastsInDim S1x1x224x224 (![] : Fin 0 → Fin S1x1x224x224.rank)

variable [Facts]

def fn {F : FTy → Type} [FloatOps F] (main_arg0 : FVec F S784x384 .f32) (main_arg1 : FVec F S100000x384 .f32) : IVec S_ 1 × IVec S1x1x224x224 1 :=
  let main_c : IVec S_ 1 := constantI S_ 1 1#1
  let main_v0 : IVec S1x1x224x224 1 := broadcastInDim S1x1x224x224 ![] bcast_S_S1x1x224x224 main_c
  let main_c_0 : IVec S_ 1 := constantI S_ 1 0#1
  (main_c_0, main_v0)
-- ==== Pre_clear_of_clamp.lean ====
abbrev S784x384 : Shape := ⟨2, ![784, 384]⟩
abbrev S100000x384 : Shape := ⟨2, ![100000, 384]⟩
abbrev S_ : Shape := ⟨0, ![]⟩
abbrev S784 : Shape := ⟨1, ![784]⟩
abbrev S784x1 : Shape := ⟨2, ![784, 1]⟩
abbrev S100000 : Shape := ⟨1, ![100000]⟩
abbrev S1x100000 : Shape := ⟨2, ![1, 100000]⟩
abbrev S784x100000 : Shape := ⟨2, ![784, 100000]⟩
abbrev S384x100000 : Shape := ⟨2, ![384, 100000]⟩
abbrev S1x384 : Shape := ⟨2, ![1, 384]⟩
abbrev S384 : Shape := ⟨1, ![384]⟩
abbrev S1 : Shape := ⟨1, ![1]⟩
abbrev S1x1 : Shape := ⟨2, ![1, 1]⟩

class Facts : Prop where
  reducesTo_S784x384_S784_d1 : S784x384.ReducesTo [1] S784
  h_S_ : 0 < S_.numel
  bcast_S784_S784x1_0 : S784.BroadcastsInDim S784x1 (![0] : Fin 1 → Fin S784x1.rank)
  reducesTo_S100000x384_S100000_d1 : S100000x384.ReducesTo [1] S100000
  bcast_S100000_S1x100000_1 : S100000.BroadcastsInDim S1x100000 (![1] : Fin 1 → Fin S1x100000.rank)
  bcast_S784x1_S784x100000_0_1 : S784x1.BroadcastsInDim S784x100000 (![0, 1] : Fin 2 → Fin S784x100000.rank)
  bcast_S1x100000_S784x100000_0_1 : S1x100000.BroadcastsInDim S784x100000 (![0, 1] : Fin 2 → Fin S784x100000.rank)
  transposes_S100000x384_S384x100000_1_0 : S100000x384.Transposes [1, 0] S384x100000
  bcast_S_S784x100000 : S_.BroadcastsInDim S784x100000 (![] : Fin 0 → Fin S784x100000.rank)
  reducesTo_S784x100000_S784_d1 : S784x100000.ReducesTo [1] S784
  reducesTo_S784_S_d0 : S784.ReducesTo [0] S_
  sliceFits_S784x384_S1x384 : S784x384.Slices (fun _ => 0) S1x384
  shapeCasts_S1x384_S384 : S1x384.ShapeCasts S384
  bcast_S384_S1x384_1 : S384.BroadcastsInDim S1x384 (![1] : Fin 1 → Fin S1x384.rank)
  sliceFits_S784_S1 : S784.Slices (fun _ => 0) S1
  shapeCasts_S1_S_ : S1.ShapeCasts S_
  sliceFits_S100000x384_S1x384 : S100000x384.Slices (fun _ => 0) S1x384
  bcast_S_S100000x384 : S_.BroadcastsInDim S100000x384 (![] : Fin 0 → Fin S100000x384.rank)
  reducesTo_S100000x384_S_d0_1 : S100000x384.ReducesTo [0, 1] S_
  reducesTo_S1x384_S1_d1 : S1x384.ReducesTo [1] S1
  bcast_S1_S1x1_0 : S1.BroadcastsInDim S1x1 (![0] : Fin 1 → Fin S1x1.rank)
  bcast_S1x1_S1x100000_0_1 : S1x1.BroadcastsInDim S1x100000 (![0, 1] : Fin 2 → Fin S1x100000.rank)
  bcast_S_S1x100000 : S_.BroadcastsInDim S1x100000 (![] : Fin 0 → Fin S1x100000.rank)
  reducesTo_S1x100000_S_d0_1 : S1x100000.ReducesTo [0, 1] S_
  dot_S784x384_S384x100000_S784x100000_1_0_0_1_n_n_wf : DotDims.WF S784x384 S384x100000 S784x100000 [1] [0] [0] [1] [] []
  dot_S1x384_S384x100000_S1x100000_1_0_0_1_n_n_wf : DotDims.WF S1x384 S384x100000 S1x100000 [1] [0] [0] [1] [] []

variable [Facts]

variable {F : FTy → Type} [FloatOps F]
def dot_S784x384_S384x100000_S784x100000_1_0_0_1_n_n : DotDims S784x384 S384x100000 S784x100000 where
  lhsContracting := [1]
  rhsContracting := [0]
  lhsNonContracting := [0]
  rhsNonContracting := [1]
  lhsBatch := []
  rhsBatch := []
  wf := dot_S784x384_S384x100000_S784x100000_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S1x384_S384x100000_S1x100000_1_0_0_1_n_n : DotDims S1x384 S384x100000 S1x100000 where
  lhsContracting := [1]
  rhsContracting := [0]
  lhsNonContracting := [0]
  rhsNonContracting := [1]
  lhsBatch := []
  rhsBatch := []
  wf := dot_S1x384_S384x100000_S1x100000_1_0_0_1_n_n_wf

def fn_argmin {F : FTy → Type} [FloatOps F] (arg0 : FVec F S784x100000 .f32) : IVec S784 32 :=
  let v0 : IVec S784x100000 32 := iotaInDim S784x100000 32 1
  let cst : FVec F S_ .f32 := constant S_ .f32 0x7F800000#32
  let c : IVec S_ 32 := constantI S_ 32 0#32
  let v1_0 : FVec F S784 .f32 := (fun x y u v j => (Host.argReduce reducer_argmin_f32_i32 x y u v reducesTo_S784x100000_S784_d1 h_S_ j).1) arg0 v0 cst c
  let v1_1 : IVec S784 32 := (fun x y u v j => (Host.argReduce reducer_argmin_f32_i32 x y u v reducesTo_S784x100000_S784_d1 h_S_ j).2) arg0 v0 cst c
  v1_1

def fn_argmax {F : FTy → Type} [FloatOps F] (arg0 : FVec F S784 .f32) : IVec S_ 32 :=
  let v0 : IVec S784 32 := iotaInDim S784 32 0
  let cst : FVec F S_ .f32 := constant S_ .f32 0xFF800000#32
  let c : IVec S_ 32 := constantI S_ 32 0#32
  let v1_0 : FVec F S_ .f32 := (fun x y u v j => (Host.argReduce reducer_argmax_f32_i32 x y u v reducesTo_S784_S_d0 h_S_ j).1) arg0 v0 cst c
  let v1_1 : IVec S_ 32 := (fun x y u v j => (Host.argReduce reducer_argmax_f32_i32 x y u v reducesTo_S784_S_d0 h_S_ j).2) arg0 v0 cst c
  v1_1

def fn_part5 {F : FTy → Type} [FloatOps F] (main_v66 : IVec S_ 1) (main_v84 : IVec S1x100000 1) (main_c_32 : IVec S_ 1) : IVec S_ 1 :=
  let main_v85 : IVec S_ 1 := (fun x v => Host.reduce IntOp.andi x v reducesTo_S1x100000_S_d0_1 h_S_) main_v84 main_c_32
  let main_v86 : IVec S_ 1 := andi main_v66 main_v85
  main_v86

def fn_part4 {F : FTy → Type} [FloatOps F] (main_arg1 : FVec F S100000x384 .f32) (main_v42 : FVec F S1x384 .f32) (main_v66 : IVec S_ 1) : IVec S_ 1 :=
  let main_v67 : FVec F S1x384 .f32 := mulf main_v42 main_v42
  let main_cst_27 : FVec F S_ .f32 := constant S_ .f32 0x00000000#32
  let main_v68 : FVec F S1 .f32 := (fun x v => Host.reduceAdd x v reducesTo_S1x384_S1_d1 h_S_) main_v67 main_cst_27
  let main_v69 : FVec F S1x1 .f32 := broadcastInDim S1x1 ![0] bcast_S1_S1x1_0 main_v68
  let main_v70 : FVec F S100000x384 .f32 := mulf main_arg1 main_arg1
  let main_cst_28 : FVec F S_ .f32 := constant S_ .f32 0x00000000#32
  let main_v71 : FVec F S100000 .f32 := (fun x v => Host.reduceAdd x v reducesTo_S100000x384_S100000_d1 h_S_) main_v70 main_cst_28
  let main_v72 : FVec F S1x100000 .f32 := broadcastInDim S1x100000 ![1] bcast_S100000_S1x100000_1 main_v71
  let main_v73 : FVec F S1x100000 .f32 := broadcastInDim S1x100000 ![0, 1] bcast_S1x1_S1x100000_0_1 main_v69
  let main_v74 : FVec F S1x100000 .f32 := addf main_v73 main_v72
  let main_v75 : FVec F S384x100000 .f32 := (transpose S384x100000 [1, 0] · transposes_S100000x384_S384x100000_1_0) main_arg1
  let main_v76 : FVec F S1x100000 .f32 := (fun l r => Host.dotGeneral dot_S1x384_S384x100000_S1x100000_1_0_0_1_n_n none l r) main_v42 main_v75
  let main_cst_29 : FVec F S_ .f32 := constant S_ .f32 0x40000000#32
  let main_v77 : FVec F S1x100000 .f32 := broadcastInDim S1x100000 ![] bcast_S_S1x100000 main_cst_29
  let main_v78 : FVec F S1x100000 .f32 := mulf main_v77 main_v76
  let main_v79 : FVec F S1x100000 .f32 := subf main_v74 main_v78
  let main_cst_30 : FVec F S_ .f32 := constant S_ .f32 0x00000000#32
  let main_v80 : FVec F S1x100000 .f32 := broadcastInDim S1x100000 ![] bcast_S_S1x100000 main_cst_30
  let main_v81 : IVec S1x100000 1 := cmpf .oeq main_v79 main_v80
  let main_cst_31 : FVec F S_ .f32 := constant S_ .f32 0x2B8CBCCC#32
  let main_v82 : FVec F S1x100000 .f32 := broadcastInDim S1x100000 ![] bcast_S_S1x100000 main_cst_31
  let main_v83 : IVec S1x100000 1 := cmpf .ogt main_v79 main_v82
  let main_v84 : IVec S1x100000 1 := ori main_v81 main_v83
  let main_c_32 : IVec S_ 1 := constantI S_ 1 1#1
  fn_part5 (F := F) main_v66 main_v84 main_c_32

def fn_part3 {F : FTy → Type} [FloatOps F] (main_arg1 : FVec F S100000x384 .f32) (main_v28 : FVec F S1x384 .f32) (main_v42 : FVec F S1x384 .f32) (main_v46 : IVec S_ 1) (main_v47 : FVec F S1x384 .f32) (main_cst_21 : FVec F S_ .f32) : IVec S_ 1 :=
  let main_v48 : FVec F S1 .f32 := (fun x v => Host.reduceAdd x v reducesTo_S1x384_S1_d1 h_S_) main_v47 main_cst_21
  let main_v49 : FVec F S1x1 .f32 := broadcastInDim S1x1 ![0] bcast_S1_S1x1_0 main_v48
  let main_v50 : FVec F S100000x384 .f32 := mulf main_arg1 main_arg1
  let main_cst_22 : FVec F S_ .f32 := constant S_ .f32 0x00000000#32
  let main_v51 : FVec F S100000 .f32 := (fun x v => Host.reduceAdd x v reducesTo_S100000x384_S100000_d1 h_S_) main_v50 main_cst_22
  let main_v52 : FVec F S1x100000 .f32 := broadcastInDim S1x100000 ![1] bcast_S100000_S1x100000_1 main_v51
  let main_v53 : FVec F S1x100000 .f32 := broadcastInDim S1x100000 ![0, 1] bcast_S1x1_S1x100000_0_1 main_v49
  let main_v54 : FVec F S1x100000 .f32 := addf main_v53 main_v52
  let main_v55 : FVec F S384x100000 .f32 := (transpose S384x100000 [1, 0] · transposes_S100000x384_S384x100000_1_0) main_arg1
  let main_v56 : FVec F S1x100000 .f32 := (fun l r => Host.dotGeneral dot_S1x384_S384x100000_S1x100000_1_0_0_1_n_n none l r) main_v28 main_v55
  let main_cst_23 : FVec F S_ .f32 := constant S_ .f32 0x40000000#32
  let main_v57 : FVec F S1x100000 .f32 := broadcastInDim S1x100000 ![] bcast_S_S1x100000 main_cst_23
  let main_v58 : FVec F S1x100000 .f32 := mulf main_v57 main_v56
  let main_v59 : FVec F S1x100000 .f32 := subf main_v54 main_v58
  let main_cst_24 : FVec F S_ .f32 := constant S_ .f32 0x00000000#32
  let main_v60 : FVec F S1x100000 .f32 := broadcastInDim S1x100000 ![] bcast_S_S1x100000 main_cst_24
  let main_v61 : IVec S1x100000 1 := cmpf .oeq main_v59 main_v60
  let main_cst_25 : FVec F S_ .f32 := constant S_ .f32 0x2B8CBCCC#32
  let main_v62 : FVec F S1x100000 .f32 := broadcastInDim S1x100000 ![] bcast_S_S1x100000 main_cst_25
  let main_v63 : IVec S1x100000 1 := cmpf .ogt main_v59 main_v62
  let main_v64 : IVec S1x100000 1 := ori main_v61 main_v63
  let main_c_26 : IVec S_ 1 := constantI S_ 1 1#1
  let main_v65 : IVec S_ 1 := (fun x v => Host.reduce IntOp.andi x v reducesTo_S1x100000_S_d0_1 h_S_) main_v64 main_c_26
  let main_v66 : IVec S_ 1 := andi main_v46 main_v65
  fn_part4 (F := F) main_arg1 main_v42 main_v66

def fn_part2 {F : FTy → Type} [FloatOps F] (main_arg1 : FVec F S100000x384 .f32) (main_v28 : FVec F S1x384 .f32) (main_v33 : IVec S_ 32) : IVec S_ 1 :=
  let main_c_12 : IVec S_ 32 := constantI S_ 32 0#32
  let main_v34 : IVec S_ 1 := cmpi .slt main_v33 main_c_12
  let main_c_13 : IVec S_ 32 := constantI S_ 32 100000#32
  let main_v35 : IVec S_ 32 := addi main_v33 main_c_13
  let main_v36 : IVec S_ 32 := select main_v34 main_v35 main_v33
  let main_c_14 : IVec S_ 32 := constantI S_ 32 0#32
  let main_c_15 : IVec S_ 32 := constantI S_ 32 0#32
  let main_v37 : IVec S_ 1 := cmpi .slt main_c_14 main_c_15
  let main_c_16 : IVec S_ 32 := constantI S_ 32 0#32
  let main_c_17 : IVec S_ 32 := constantI S_ 32 384#32
  let main_v38 : IVec S_ 32 := addi main_c_16 main_c_17
  let main_c_18 : IVec S_ 32 := constantI S_ 32 0#32
  let main_v39 : IVec S_ 32 := select main_v37 main_v38 main_c_18
  let main_v40 : FVec F S1x384 .f32 := (fun x i => Host.dynamicSlice S1x384 x (fun k => (i k (Shape.Idx.first h_S_)).toInt) sliceFits_S100000x384_S1x384) main_arg1 (![main_v36, main_v39] : Fin 2 → IVec S_ 32)
  let main_v41 : FVec F S384 .f32 := shapeCast S384 main_v40 shapeCasts_S1x384_S384
  let main_v42 : FVec F S1x384 .f32 := broadcastInDim S1x384 ![1] bcast_S384_S1x384_1 main_v41
  let main_v43 : FVec F S100000x384 .f32 := Host.absf main_arg1
  let main_cst_19 : FVec F S_ .f32 := constant S_ .f32 0x7F800000#32
  let main_v44 : FVec F S100000x384 .f32 := broadcastInDim S100000x384 ![] bcast_S_S100000x384 main_cst_19
  let main_v45 : IVec S100000x384 1 := cmpf .olt main_v43 main_v44
  let main_c_20 : IVec S_ 1 := constantI S_ 1 1#1
  let main_v46 : IVec S_ 1 := (fun x v => Host.reduce IntOp.andi x v reducesTo_S100000x384_S_d0_1 h_S_) main_v45 main_c_20
  let main_v47 : FVec F S1x384 .f32 := mulf main_v28 main_v28
  let main_cst_21 : FVec F S_ .f32 := constant S_ .f32 0x00000000#32
  fn_part3 (F := F) main_arg1 main_v28 main_v42 main_v46 main_v47 main_cst_21

def fn_part1 {F : FTy → Type} [FloatOps F] (main_arg0 : FVec F S784x384 .f32) (main_arg1 : FVec F S100000x384 .f32) (main_v17 : IVec S784 32) (main_v18 : FVec F S784 .f32) : IVec S_ 1 :=
  let main_v19 : IVec S_ 32 := fn_argmax (F := F) main_v18
  let main_c : IVec S_ 32 := constantI S_ 32 0#32
  let main_v20 : IVec S_ 1 := cmpi .slt main_v19 main_c
  let main_c_4 : IVec S_ 32 := constantI S_ 32 784#32
  let main_v21 : IVec S_ 32 := addi main_v19 main_c_4
  let main_v22 : IVec S_ 32 := select main_v20 main_v21 main_v19
  let main_c_5 : IVec S_ 32 := constantI S_ 32 0#32
  let main_c_6 : IVec S_ 32 := constantI S_ 32 0#32
  let main_v23 : IVec S_ 1 := cmpi .slt main_c_5 main_c_6
  let main_c_7 : IVec S_ 32 := constantI S_ 32 0#32
  let main_c_8 : IVec S_ 32 := constantI S_ 32 384#32
  let main_v24 : IVec S_ 32 := addi main_c_7 main_c_8
  let main_c_9 : IVec S_ 32 := constantI S_ 32 0#32
  let main_v25 : IVec S_ 32 := select main_v23 main_v24 main_c_9
  let main_v26 : FVec F S1x384 .f32 := (fun x i => Host.dynamicSlice S1x384 x (fun k => (i k (Shape.Idx.first h_S_)).toInt) sliceFits_S784x384_S1x384) main_arg0 (![main_v22, main_v25] : Fin 2 → IVec S_ 32)
  let main_v27 : FVec F S384 .f32 := shapeCast S384 main_v26 shapeCasts_S1x384_S384
  let main_v28 : FVec F S1x384 .f32 := broadcastInDim S1x384 ![1] bcast_S384_S1x384_1 main_v27
  let main_c_10 : IVec S_ 32 := constantI S_ 32 0#32
  let main_v29 : IVec S_ 1 := cmpi .slt main_v19 main_c_10
  let main_c_11 : IVec S_ 32 := constantI S_ 32 784#32
  let main_v30 : IVec S_ 32 := addi main_v19 main_c_11
  let main_v31 : IVec S_ 32 := select main_v29 main_v30 main_v19
  let main_v32 : IVec S1 32 := (fun x i => Host.dynamicSlice S1 x (fun k => (i k (Shape.Idx.first h_S_)).toInt) sliceFits_S784_S1) main_v17 (![main_v31] : Fin 1 → IVec S_ 32)
  let main_v33 : IVec S_ 32 := shapeCast S_ main_v32 shapeCasts_S1_S_
  fn_part2 (F := F) main_arg1 main_v28 main_v33

def fn {F : FTy → Type} [FloatOps F] (main_arg0 : FVec F S784x384 .f32) (main_arg1 : FVec F S100000x384 .f32) : IVec S_ 1 :=
  let main_v0 : FVec F S784x384 .f32 := mulf main_arg0 main_arg0
  let main_cst : FVec F S_ .f32 := constant S_ .f32 0x00000000#32
  let main_v1 : FVec F S784 .f32 := (fun x v => Host.reduceAdd x v reducesTo_S784x384_S784_d1 h_S_) main_v0 main_cst
  let main_v2 : FVec F S784x1 .f32 := broadcastInDim S784x1 ![0] bcast_S784_S784x1_0 main_v1
  let main_v3 : FVec F S100000x384 .f32 := mulf main_arg1 main_arg1
  let main_cst_0 : FVec F S_ .f32 := constant S_ .f32 0x00000000#32
  let main_v4 : FVec F S100000 .f32 := (fun x v => Host.reduceAdd x v reducesTo_S100000x384_S100000_d1 h_S_) main_v3 main_cst_0
  let main_v5 : FVec F S1x100000 .f32 := broadcastInDim S1x100000 ![1] bcast_S100000_S1x100000_1 main_v4
  let main_v6 : FVec F S784x100000 .f32 := broadcastInDim S784x100000 ![0, 1] bcast_S784x1_S784x100000_0_1 main_v2
  let main_v7 : FVec F S784x100000 .f32 := broadcastInDim S784x100000 ![0, 1] bcast_S1x100000_S784x100000_0_1 main_v5
  let main_v8 : FVec F S784x100000 .f32 := addf main_v6 main_v7
  let main_v9 : FVec F S384x100000 .f32 := (transpose S384x100000 [1, 0] · transposes_S100000x384_S384x100000_1_0) main_arg1
  let main_v10 : FVec F S784x100000 .f32 := (fun l r => Host.dotGeneral dot_S784x384_S384x100000_S784x100000_1_0_0_1_n_n none l r) main_arg0 main_v9
  let main_cst_1 : FVec F S_ .f32 := constant S_ .f32 0x40000000#32
  let main_v11 : FVec F S784x100000 .f32 := broadcastInDim S784x100000 ![] bcast_S_S784x100000 main_cst_1
  let main_v12 : FVec F S784x100000 .f32 := mulf main_v11 main_v10
  let main_v13 : FVec F S784x100000 .f32 := subf main_v8 main_v12
  let main_cst_2 : FVec F S_ .f32 := constant S_ .f32 0x2B8CBCCC#32
  let main_v14 : FVec F S784x100000 .f32 := broadcastInDim S784x100000 ![] bcast_S_S784x100000 main_cst_2
  let main_v15 : FVec F S784x100000 .f32 := maximumf main_v13 main_v14
  let main_v16 : FVec F S784x100000 .f32 := Host.sqrt main_v15
  let main_v17 : IVec S784 32 := fn_argmin (F := F) main_v16
  let main_cst_3 : FVec F S_ .f32 := constant S_ .f32 0x7F800000#32
  let main_v18 : FVec F S784 .f32 := (fun x v => Host.reduce FloatOps.minimumf x v reducesTo_S784x100000_S784_d1 h_S_) main_v16 main_cst_3
  fn_part1 (F := F) main_arg0 main_arg1 main_v17 main_v18
-- ==== Kernel.lean ====
abbrev S784x384 : Shape := ⟨2, ![784, 384]⟩
abbrev S100000x384 : Shape := ⟨2, ![100000, 384]⟩
abbrev S224x28 : Shape := ⟨2, ![224, 28]⟩
abbrev S784x1 : Shape := ⟨2, ![784, 1]⟩
abbrev S1x1 : Shape := ⟨2, ![1, 1]⟩
abbrev S2000x384 : Shape := ⟨2, ![2000, 384]⟩
abbrev S1x384 : Shape := ⟨2, ![1, 384]⟩
abbrev S1x2000 : Shape := ⟨2, ![1, 2000]⟩
abbrev S784x2000 : Shape := ⟨2, ![784, 2000]⟩
abbrev S784 : Shape := ⟨1, ![784]⟩
abbrev S1x784x1 : Shape := ⟨3, ![1, 784, 1]⟩
abbrev S1 : Shape := ⟨1, ![1]⟩
abbrev S1x1x1 : Shape := ⟨3, ![1, 1, 1]⟩
abbrev S_ : Shape := ⟨0, ![]⟩
abbrev S4000x384 : Shape := ⟨2, ![4000, 384]⟩
abbrev S25x4000 : Shape := ⟨2, ![25, 4000]⟩
abbrev S1x4000 : Shape := ⟨2, ![1, 4000]⟩
abbrev S1x25x4000 : Shape := ⟨3, ![1, 25, 4000]⟩
abbrev S28x28 : Shape := ⟨2, ![28, 28]⟩
abbrev S224x224 : Shape := ⟨2, ![224, 224]⟩
abbrev S1x28x28 : Shape := ⟨3, ![1, 28, 28]⟩
abbrev S384 : Shape := ⟨1, ![384]⟩
abbrev S1x1x384 : Shape := ⟨3, ![1, 1, 384]⟩
abbrev S1x1x224x224 : Shape := ⟨4, ![1, 1, 224, 224]⟩

abbrev nBuf : Space → Nat
  | .hbm => 37
  | .vmem => 16
  | .smem => 6
  | _ => 0

abbrev bufTy : (tb : Table) → Fin (tcTables nBuf tb) → BufTy
  | .hbm, ⟨0, _⟩ => ⟨S784x384, .f32⟩
  | .hbm, ⟨1, _⟩ => ⟨S100000x384, .f32⟩
  | .hbm, ⟨2, _⟩ => ⟨S224x28, .f32⟩
  | .hbm, ⟨3, _⟩ => ⟨S784x1, .f32⟩
  | .hbm, ⟨4, _⟩ => ⟨S1x1, .i32⟩
  | .hbm, ⟨5, _⟩ => ⟨S1x1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1x384, .f32⟩
  | .hbm, ⟨14, _⟩ => ⟨S1x1, .i32⟩
  | .hbm, ⟨15, _⟩ => ⟨S1x1, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x384, .f32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x384, .f32⟩
  | .hbm, ⟨32, _⟩ => ⟨S28x28, .f32⟩
  | .hbm, ⟨33, _⟩ => ⟨S1x1, .f32⟩
  | .hbm, ⟨34, _⟩ => ⟨S224x224, .f32⟩
  | .hbm, ⟨35, _⟩ => ⟨S_, .f32⟩
  | .hbm, ⟨36, _⟩ => ⟨S1x1x224x224, .f32⟩
  | .local _ .vmem, ⟨0, _⟩ => ⟨S784x384, .f32⟩
  | .local _ .vmem, ⟨1, _⟩ => ⟨S2000x384, .f32⟩
  | .local _ .vmem, ⟨2, _⟩ => ⟨S2000x384, .f32⟩
  | .local _ .vmem, ⟨3, _⟩ => ⟨S784x1, .f32⟩
  | .local _ .vmem, ⟨4, _⟩ => ⟨S784x1, .f32⟩
  | .local _ .vmem, ⟨5, _⟩ => ⟨S784x1, .i32⟩
  | .local _ .vmem, ⟨6, _⟩ => ⟨S1x384, .f32⟩
  | .local _ .vmem, ⟨7, _⟩ => ⟨S4000x384, .f32⟩
  | .local _ .vmem, ⟨8, _⟩ => ⟨S4000x384, .f32⟩
  | .local _ .vmem, ⟨9, _⟩ => ⟨S25x4000, .f32⟩
  | .local _ .vmem, ⟨10, _⟩ => ⟨S28x28, .f32⟩
  | .local _ .vmem, ⟨11, _⟩ => ⟨S784x384, .f32⟩
  | .local _ .vmem, ⟨12, _⟩ => ⟨S1x384, .f32⟩
  | .local _ .vmem, ⟨13, _⟩ => ⟨S1x384, .f32⟩
  | .local _ .vmem, ⟨14, _⟩ => ⟨S224x28, .f32⟩
  | .local _ .vmem, ⟨15, _⟩ => ⟨S224x224, .f32⟩
  | .local _ .smem, ⟨0, _⟩ => ⟨S1x1, .i32⟩
  | .local _ .smem, ⟨1, _⟩ => ⟨S1x1, .i32⟩
  | .local _ .smem, ⟨2, _⟩ => ⟨S1x1, .i32⟩
  | .local _ .smem, ⟨3, _⟩ => ⟨S1x1, .i32⟩
  | .local _ .smem, ⟨4, _⟩ => ⟨S1x1, .i32⟩
  | .local _ .smem, ⟨5, _⟩ => ⟨S1x1, .f32⟩
  | _, _ => ⟨S784x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg5_0 : Ref sig .tc := ⟨.vmem, 14, rfl⟩
abbrev cc2_stg7_0 : Ref sig .tc := ⟨.vmem, 15, rfl⟩
abbrev cc0_stg3_0 : Ref sig .tc := ⟨.smem, 0, rfl⟩
abbrev cc0_stg4_0 : Ref sig .tc := ⟨.smem, 1, rfl⟩
abbrev cc1_stg2_0 : Ref sig .tc := ⟨.smem, 2, rfl⟩
abbrev cc1_stg3_0 : Ref sig .tc := ⟨.smem, 3, rfl⟩
abbrev cc2_stg4_0 : Ref sig .tc := ⟨.smem, 4, rfl⟩
abbrev cc2_stg6_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v36 : BitVec 1 := Scalar.cmpi .eq arg0 c49_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S784x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def k1_off1 (i : grid1.Coords) : Fin 2 → Nat :=
  let arg0 : BitVec 32 := BitVec.ofNat 32 (i 0).val
  let v10 : Index := Scalar.indexCast arg0
  let c0_6 : Index := 0#32
  ![v10.toNat, 0]
def k1_cond1 (i : grid1.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32 : BitVec 32 := 0#32
  let v16 : BitVec 1 := Scalar.cmpi .ne v15 c0_i32
  v16

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4000x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S28x28 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S784x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S224x28 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .smem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S224x224 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
-- ==== KernelIdeal.lean ====
variable {F : FTy → Type} [FloatOps F] [Named F]
def κ : String → Option EReal := fun
  | "nrm" => some ((Real.sqrt 384 : ℝ) : EReal)
  | _ => none
-- ==== ReferenceIdeal.lean ====
abbrev S784x384 : Shape := ⟨2, ![784, 384]⟩
abbrev S100000x384 : Shape := ⟨2, ![100000, 384]⟩
abbrev S_ : Shape := ⟨0, ![]⟩
abbrev S784 : Shape := ⟨1, ![784]⟩
abbrev S784x1 : Shape := ⟨2, ![784, 1]⟩
abbrev S100000 : Shape := ⟨1, ![100000]⟩
abbrev S1x100000 : Shape := ⟨2, ![1, 100000]⟩
abbrev S784x100000 : Shape := ⟨2, ![784, 100000]⟩
abbrev S384x100000 : Shape := ⟨2, ![384, 100000]⟩
abbrev S1 : Shape := ⟨1, ![1]⟩
abbrev S1x384 : Shape := ⟨2, ![1, 384]⟩
abbrev S384 : Shape := ⟨1, ![384]⟩
abbrev S1x1 : Shape := ⟨2, ![1, 1]⟩
abbrev S1x3 : Shape := ⟨2, ![1, 3]⟩
abbrev S1x2 : Shape := ⟨2, ![1, 2]⟩
abbrev S2 : Shape := ⟨1, ![2]⟩
abbrev S2x1 : Shape := ⟨2, ![2, 1]⟩
abbrev S2x384 : Shape := ⟨2, ![2, 384]⟩
abbrev S1x1x28x28 : Shape := ⟨4, ![1, 1, 28, 28]⟩
abbrev S224 : Shape := ⟨1, ![224]⟩
abbrev S224x1 : Shape := ⟨2, ![224, 1]⟩
abbrev S28 : Shape := ⟨1, ![28]⟩
abbrev S1x28 : Shape := ⟨2, ![1, 28]⟩
abbrev S224x28 : Shape := ⟨2, ![224, 28]⟩
abbrev S1x1x28x224 : Shape := ⟨4, ![1, 1, 28, 224]⟩
abbrev S1x1x224x224 : Shape := ⟨4, ![1, 1, 224, 224]⟩

abbrev nBuf : Space → Nat
  | .hbm => 163
  | .vmem => 0
  | .smem => 0
  | _ => 0

abbrev hbmTy0_0 (i : Nat) : BufTy := match i % 128 with
  | 0 => ⟨S784x384, .f32⟩
  | 1 => ⟨S100000x384, .f32⟩
  | 2 => ⟨S784x384, .f32⟩
  | 3 => ⟨S_, .f32⟩
  | 4 => ⟨S784, .f32⟩
  | 5 => ⟨S784x1, .f32⟩
  | 6 => ⟨S100000x384, .f32⟩
  | 7 => ⟨S_, .f32⟩
  | 8 => ⟨S100000, .f32⟩
  | 9 => ⟨S1x100000, .f32⟩
  | 10 => ⟨S784x100000, .f32⟩
  | 11 => ⟨S784x100000, .f32⟩
  | 12 => ⟨S784x100000, .f32⟩
  | 13 => ⟨S384x100000, .f32⟩
  | 14 => ⟨S784x100000, .f32⟩
  | 15 => ⟨S_, .f32⟩
  | 16 => ⟨S784x100000, .f32⟩
  | 17 => ⟨S784x100000, .f32⟩
  | 18 => ⟨S784x100000, .f32⟩
  | 19 => ⟨S_, .f32⟩
  | 20 => ⟨S784x100000, .f32⟩
  | 21 => ⟨S784x100000, .f32⟩
  | 22 => ⟨S784x100000, .f32⟩
  | 23 => ⟨S_, .f32⟩
  | 24 => ⟨S784, .f32⟩
  | 25 => ⟨S784x100000, .i32⟩
  | 26 => ⟨S_, .f32⟩
  | 27 => ⟨S_, .i32⟩
  | 28 => ⟨S784, .f32⟩
  | 29 => ⟨S784, .i32⟩
  | 30 => ⟨S784, .i32⟩
  | 31 => ⟨S_, .f32⟩
  | 32 => ⟨S_, .i32⟩
  | 33 => ⟨S_, .f32⟩
  | 34 => ⟨S_, .i32⟩
  | 35 => ⟨S_, .f32⟩
  | 36 => ⟨S_, .f32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x384, .f32⟩
  | 58 => ⟨S384, .f32⟩
  | 59 => ⟨S1x384, .f32⟩
  | 60 => ⟨S1x384, .f32⟩
  | 61 => ⟨S_, .f32⟩
  | 62 => ⟨S1, .f32⟩
  | 63 => ⟨S1x1, .f32⟩
  | 64 => ⟨S100000x384, .f32⟩
  | 65 => ⟨S_, .f32⟩
  | 66 => ⟨S100000, .f32⟩
  | 67 => ⟨S1x100000, .f32⟩
  | 68 => ⟨S1x100000, .f32⟩
  | 69 => ⟨S1x100000, .f32⟩
  | 70 => ⟨S384x100000, .f32⟩
  | 71 => ⟨S1x100000, .f32⟩
  | 72 => ⟨S_, .f32⟩
  | 73 => ⟨S1x100000, .f32⟩
  | 74 => ⟨S1x100000, .f32⟩
  | 75 => ⟨S1x100000, .f32⟩
  | 76 => ⟨S_, .f32⟩
  | 77 => ⟨S1x100000, .f32⟩
  | 78 => ⟨S1x100000, .f32⟩
  | 79 => ⟨S1x100000, .f32⟩
  | 80 => ⟨S1x100000, .f32⟩
  | 81 => ⟨S1x3, .f32⟩
  | 82 => ⟨S1x3, .i32⟩
  | 83 => ⟨S1x2, .i32⟩
  | 84 => ⟨S2, .i32⟩
  | 85 => ⟨S_, .i32⟩
  | 86 => ⟨S2, .i32⟩
  | 87 => ⟨S2, .i1⟩
  | 88 => ⟨S_, .i32⟩
  | 89 => ⟨S2, .i32⟩
  | 90 => ⟨S2, .i32⟩
  | 91 => ⟨S2, .i32⟩
  | 92 => ⟨S2x1, .i32⟩
  | 93 => ⟨S2x384, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S1x384, .f32⟩
  | 108 => ⟨S384, .f32⟩
  | 109 => ⟨S1x384, .f32⟩
  | 110 => ⟨S2x384, .f32⟩
  | 111 => ⟨S2x384, .f32⟩
  | 112 => ⟨S2x384, .f32⟩
  | 113 => ⟨S_, .f32⟩
  | 114 => ⟨S2, .f32⟩
  | 115 => ⟨S2, .f32⟩
  | 116 => ⟨S_, .f32⟩
  | 117 => ⟨S_, .f32⟩
  | 118 => ⟨S_, .f32⟩
  | 119 => ⟨S_, .f32⟩
  | 120 => ⟨S2, .f32⟩
  | 121 => ⟨S2, .f32⟩
  | 122 => ⟨S2, .f32⟩
  | 123 => ⟨S_, .f32⟩
  | 124 => ⟨S_, .f32⟩
  | 125 => ⟨S_, .f32⟩
  | 126 => ⟨S_, .f32⟩
  | 127 => ⟨S_, .f32⟩
  | _ => ⟨S784x384, .f32⟩

abbrev hbmTy0_1 (i : Nat) : BufTy := match i % 128 with
  | 0 => ⟨S_, .f32⟩
  | 1 => ⟨S1x1x28x28, .f32⟩
  | 2 => ⟨S224, .f32⟩
  | 3 => ⟨S_, .f32⟩
  | 4 => ⟨S224, .f32⟩
  | 5 => ⟨S224, .f32⟩
  | 6 => ⟨S_, .f32⟩
  | 7 => ⟨S224, .f32⟩
  | 8 => ⟨S224, .f32⟩
  | 9 => ⟨S_, .f32⟩
  | 10 => ⟨S224, .f32⟩
  | 11 => ⟨S224, .f32⟩
  | 12 => ⟨S_, .f32⟩
  | 13 => ⟨S_, .f32⟩
  | 14 => ⟨S_, .f32⟩
  | 15 => ⟨S224, .f32⟩
  | 16 => ⟨S224, .f32⟩
  | 17 => ⟨S_, .f32⟩
  | 18 => ⟨S224, .f32⟩
  | 19 => ⟨S224, .f32⟩
  | 20 => ⟨S224x1, .f32⟩
  | 21 => ⟨S28, .f32⟩
  | 22 => ⟨S1x28, .f32⟩
  | 23 => ⟨S224x28, .f32⟩
  | 24 => ⟨S224x28, .f32⟩
  | 25 => ⟨S224x28, .f32⟩
  | 26 => ⟨S224x28, .f32⟩
  | 27 => ⟨S_, .f32⟩
  | 28 => ⟨S224x28, .f32⟩
  | 29 => ⟨S224x28, .f32⟩
  | 30 => ⟨S_, .f32⟩
  | 31 => ⟨S224x28, .f32⟩
  | 32 => ⟨S224x28, .f32⟩
  | 33 => ⟨S1x1x28x224, .f32⟩
  | 34 => ⟨S1x1x224x224, .f32⟩
  | _ => ⟨S784x384, .f32⟩

abbrev hbmTy (i : Nat) : BufTy := match i / 128 with
  | 0 => hbmTy0_0 i
  | 1 => hbmTy0_1 i
  | _ => ⟨S784x384, .f32⟩

abbrev bufTy : (tb : Table) → Fin (tcTables nBuf tb) → BufTy
  | .hbm, ⟨i, _⟩ => hbmTy i
  | _, _ => ⟨S784x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_c_9 : Ref sig .tc := ⟨.hbm, 50, rfl⟩
abbrev main_v29 : Ref sig .tc := ⟨.hbm, 51, rfl⟩
abbrev main_c_10 : Ref sig .tc := ⟨.hbm, 52, rfl⟩
abbrev main_c_11 : Ref sig .tc := ⟨.hbm, 53, rfl⟩
abbrev main_v30 : Ref sig .tc := ⟨.hbm, 54, rfl⟩
abbrev main_c_12 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_13 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_14 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_values : Ref sig .tc := ⟨.hbm, 81, rfl⟩
abbrev main_indices : Ref sig .tc := ⟨.hbm, 82, rfl⟩
abbrev main_v52 : Ref sig .tc := ⟨.hbm, 83, rfl⟩
abbrev main_v53 : Ref sig .tc := ⟨.hbm, 84, rfl⟩
abbrev main_c_17 : Ref sig .tc := ⟨.hbm, 85, rfl⟩
abbrev main_v54 : Ref sig .tc := ⟨.hbm, 86, rfl⟩
abbrev main_v55 : Ref sig .tc := ⟨.hbm, 87, rfl⟩
abbrev main_c_18 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_19 : Ref sig .tc := ⟨.hbm, 94, rfl⟩
abbrev main_v61 : Ref sig .tc := ⟨.hbm, 95, rfl⟩
abbrev main_c_20 : Ref sig .tc := ⟨.hbm, 96, rfl⟩
abbrev main_v62 : Ref sig .tc := ⟨.hbm, 97, rfl⟩
abbrev main_v63 : Ref sig .tc := ⟨.hbm, 98, rfl⟩
abbrev main_c_21 : Ref sig .tc := ⟨.hbm, 99, rfl⟩
abbrev main_c_22 : Ref sig .tc := ⟨.hbm, 100, rfl⟩
abbrev main_v64 : Ref sig .tc := ⟨.hbm, 101, rfl⟩
abbrev main_c_23 : Ref sig .tc := ⟨.hbm, 102, rfl⟩
abbrev main_c_24 : Ref sig .tc := ⟨.hbm, 103, rfl⟩
abbrev main_v65 : Ref sig .tc := ⟨.hbm, 104, rfl⟩
abbrev main_c_25 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call2_v0 : Ref sig .tc := ⟨.hbm, 112, rfl⟩
abbrev main_call2_cst : Ref sig .tc := ⟨.hbm, 113, rfl⟩
abbrev main_call2_v1 : Ref sig .tc := ⟨.hbm, 114, rfl⟩
abbrev main_v72 : Ref sig .tc := ⟨.hbm, 115, rfl⟩
abbrev main_cst_26 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_27 : Ref sig .tc := ⟨.hbm, 123, rfl⟩
abbrev main_v79 : Ref sig .tc := ⟨.hbm, 124, rfl⟩
abbrev main_v80 : Ref sig .tc := ⟨.hbm, 125, rfl⟩
abbrev main_cst_28 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_29 : Ref sig .tc := ⟨.hbm, 131, rfl⟩
abbrev main_v85 : Ref sig .tc := ⟨.hbm, 132, rfl⟩
abbrev main_v86 : Ref sig .tc := ⟨.hbm, 133, rfl⟩
abbrev main_cst_30 : Ref sig .tc := ⟨.hbm, 134, rfl⟩
abbrev main_v87 : Ref sig .tc := ⟨.hbm, 135, rfl⟩
abbrev main_v88 : Ref sig .tc := ⟨.hbm, 136, rfl⟩
abbrev main_cst_31 : Ref sig .tc := ⟨.hbm, 137, rfl⟩
abbrev main_v89 : Ref sig .tc := ⟨.hbm, 138, rfl⟩
abbrev main_v90 : Ref sig .tc := ⟨.hbm, 139, rfl⟩
abbrev main_cst_32 : Ref sig .tc := ⟨.hbm, 140, rfl⟩
abbrev main_cst_33 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_34 : Ref sig .tc := ⟨.hbm, 155, rfl⟩
abbrev main_v99 : Ref sig .tc := ⟨.hbm, 156, rfl⟩
abbrev main_v100 : Ref sig .tc := ⟨.hbm, 157, rfl⟩
abbrev main_cst_35 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩

abbrev nD : Nat := 1
abbrev τ : Topo := Topo.v7x

variable {F : FTy → Type} [FloatOps F]
-- ==== Proof.Region0.lean ====
/-
  The nearest-neighbour region: the kernel's first call, fifty blocks of two thousand memory rows.  Each block updates a
  running smallest value and the row it was found at, both carried in scratch; the last block turns them into the
  distances, the most distant patch and the memory row nearest to it.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Proof.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which points are first and last -/

/-- The condition under which the body resets its scratch. -/
abbrev isFirst (i : grid0.Coords) : Prop := (Scalar.cmpi .ne (Scalar.extui (Scalar.cmpi .eq (BitVec.ofNat 32 (i 0).val) 0#32)) 0#32) = 1#1

theorem coord0 (t : Fin cfg0.N) : (grid0.coords t 0).val = t.val := by
  have ht : t.val < 50 := Nat.lt_of_lt_of_eq t.isLt N_0
  have e0 : (grid0.coords t 0).val = t.val / 1 % 50 := Pipeline.Grid.coords_val t 0 (by decide) rfl
  omega

theorem isFirst_iff (t : Fin cfg0.N) : isFirst (grid0.coords t) ↔ t.val = 0 := by
  have ht : t.val < 50 := Nat.lt_of_lt_of_eq t.isLt N_0
  have e0 := coord0 t
  simp only [isFirst, e0]
  word_cmp

theorem isLast_iff (t : Fin cfg0.N) : k0_cond2 (grid0.coords t) = 1#1 ↔ t.val = 49 := by
  have ht : t.val < 50 := Nat.lt_of_lt_of_eq t.isLt N_0
  have e0 := coord0 t
  simp only [k0_cond2, e0]
  word_cmp

/-! ## The body, run once per kind of point -/

section Body

variable (c : Dev nD) (i : grid0.Coords) (arg1 : Memref sig .tc .vmem S784x384 .f32) (harg1 : arg1.IsWhole)
  (arg2 : Memref sig .tc .vmem S2000x384 .f32) (harg2 : arg2.IsWhole) (arg3 : Memref sig .tc .vmem S784x1 .f32) (harg3 : arg3.IsWhole)
  (arg4 : Memref sig .tc .smem S1x1 .i32) (harg4 : arg4.IsWhole) (arg5 : Memref sig .tc .smem S1x1 .i32) (harg5 : arg5.IsWhole)
  (arg6 : Memref sig .tc .vmem S784x1 .f32) (harg6 : arg6.IsWhole) (arg7 : Memref sig .tc .vmem S784x1 .i32) (harg7 : arg7.IsWhole)
  (x0 : Vec F S784x384 .f32) (x1 : Vec F S2000x384 .f32)

/-- The running minimum after one more block. -/
abbrev nextMin (x0 : Vec F S784x384 .f32) (x1 : Vec F S2000x384 .f32) (s : Vec F S784x1 .f32) : Vec F S784x1 .f32 := k0_pay10 x0 x1 s
/-- The running position after one more block. -/
abbrev nextArg (i : grid0.Coords) (x0 : Vec F S784x384 .f32) (x1 : Vec F S2000x384 .f32) (s : Vec F S784x1 .f32) (a : Vec F S784x1 .i32) :
    Vec F S784x1 .i32 := k0_pay1 (k0_pay11 i x0 x1 s a)
/-- The word a one-by-one result holds. -/
abbrev cell (v : IVec S1x1x1 32) : Vec F S1x1 .i32 := fun _ => extractAt ![0, 0, 0] v inpos_S1x1x1_p0_0_0

/-- The first point: the scratch is reset, then updated. -/
theorem body_first (hc0 : isFirst i) (hc1 : ¬ k0_cond2 i = 1#1) (E : Set ℕ) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (nextMin x0 x1 k0_pay5) ∗ owns (c : Thread nD τ) arg7 fullShare (nextArg i x0 x1 k0_pay5 k0_pay6)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  simp only [k0_part1_eq_skeleton]
  unfold owns
  iintro ⟨⟨%f0, %hf0, H0⟩, ⟨%f1, %hf1, H1⟩, ⟨%d0, %g0, -, HS0⟩, ⟨%d1, %g1, -, HS1⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr; swap; · iexact HS0
    ipureintro; frame_out; exact View.read_writes_full _ _ inb_S784x1_S784x1_0_0 _ _
  iexists _; isplitr; swap; · iexact HS1
  ipureintro; frame_out; exact View.read_writes_full _ _ inb_S784x1_S784x1_0_0 _ _

/-- A point in the middle: the scratch is updated from what it held. -/
theorem body_mid (hc0 : ¬ isFirst i) (hc1 : ¬ k0_cond2 i = 1#1) (s0 : Vec F S784x1 .f32) (s1 : Vec F S784x1 .i32) (E : Set ℕ) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg6 fullShare (nextMin x0 x1 s0) ∗ owns (c : Thread nD τ) arg7 fullShare (nextArg i x0 x1 s0 s1)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  simp only [k0_part1_eq_skeleton]
  unfold owns
  iintro ⟨⟨%f0, %hf0, H0⟩, ⟨%f1, %hf1, H1⟩, ⟨%g0, %hg0, HS0⟩, ⟨%g1, %hg1, HS1⟩, Hk⟩
  obtain rfl := harg1.eq_unread hf0; obtain rfl := harg2.eq_unread hf1
  obtain rfl := harg6.eq_unread hg0; obtain rfl := harg7.eq_unread hg1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr; swap; · iexact HS0
    ipureintro; frame_out; exact View.read_writes_full _ _ inb_S784x1_S784x1_0_0 _ _
  iexists _; isplitr; swap; · iexact HS1
  ipureintro; frame_out; exact View.read_writes_full _ _ inb_S784x1_S784x1_0_0 _ _

/-- The last point: the scratch is updated and the three results are stored. -/
theorem body_last (hc0 : ¬ isFirst i) (hc1 : k0_cond2 i = 1#1) (s0 : Vec F S784x1 .f32) (s1 : Vec F S784x1 .i32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare (k0_pay2 x0 (nextMin x0 x1 s0))
            ∗ owns (c : Thread nD τ) arg4 fullShare (cell (k0_pay3 x0 (nextMin x0 x1 s0)))
            ∗ owns (c : Thread nD τ) arg5 fullShare (cell (k0_pay4 x0 (nextMin x0 x1 s0) (nextArg i x0 x1 s0 s1)))
            ∗ owns (c : Thread nD τ) arg6 fullShare (nextMin x0 x1 s0) ∗ owns (c : Thread nD τ) arg7 fullShare (nextArg i x0 x1 s0 s1)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%g0, %hg0, HS0⟩, ⟨%g1, %hg1, HS1⟩, Hk⟩
  obtain rfl := harg1.eq_unread hf0; obtain rfl := harg2.eq_unread hf1
  obtain rfl := harg6.eq_unread hg0; obtain rfl := harg7.eq_unread hg1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; frame_out; exact View.read_writes_full _ _ inb_S784x1_S784x1_0_0 _ _
  isplitl [H3]
  · iexists _; isplitr; swap; · iexact H3
    ipureintro; frame_out; exact View.read_writes_full _ _ inb_S1x1_S1x1_0_0 _ _
  isplitl [H4]
  · iexists _; isplitr; swap; · iexact H4
    ipureintro; frame_out; exact View.read_writes_full _ _ inb_S1x1_S1x1_0_0 _ _
  isplitl [HS0]
  · iexists _; isplitr; swap; · iexact HS0
    ipureintro; frame_out; exact View.read_writes_full _ _ inb_S784x1_S784x1_0_0 _ _
  iexists _; isplitr; swap; · iexact HS1
  ipureintro; frame_out; exact View.read_writes_full _ _ inb_S784x1_S784x1_0_0 _ _

end Body

/-! ## The region's proof data, from any contents at entry -/

variable (W : Dev nD → Valuation τ sig (Elt F))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The patches. -/
abbrev patches (c : Dev nD) (t : Fin cfg0.N) : Vec F S784x384 .f32 := blockAt W c 0 t
/-- The block of memory rows of point `t`. -/
abbrev rows (c : Dev nD) (t : Fin cfg0.N) : Vec F S2000x384 .f32 := blockAt W c 1 t

/-- The scratch after `n` blocks: the running minimum and its position. -/
def state (c : Dev nD) : ℕ → Vec F S784x1 .f32 × Vec F S784x1 .i32
  | 0 => (k0_pay5, k0_pay6)
  | n + 1 =>
    if h : n < cfg0.N then
      (nextMin (patches W c ⟨n, h⟩) (rows W c ⟨n, h⟩) (state c n).1,
        nextArg (grid0.coords ⟨n, h⟩) (patches W c ⟨n, h⟩) (rows W c ⟨n, h⟩) (state c n).1 (state c n).2)
    else state c n

theorem state_succ (c : Dev nD) (t : Fin cfg0.N) : state W c (t.val + 1)
    = (nextMin (patches W c t) (rows W c t) (state W c t.val).1,
        nextArg (grid0.coords t) (patches W c t) (rows W c t) (state W c t.val).1 (state W c t.val).2) := by
  rw [state.eq_2, dif_pos t.isLt]

/-- The two scratch buffers. -/
abbrev scratchMin : Memref sig .tc .vmem S784x1 .f32 := Memref.whole cc0_scratch0
abbrev scratchArg : Memref sig .tc .vmem S784x1 .i32 := Memref.whole cc0_scratch1

/-- The other calls' buffers, which the region carries unopened. -/
abbrev others (c : Dev nD) : sProp 𝕄 := Pipeline.scopedRestBut (Val := Elt F) spec0 c [cc0_scratch0, cc0_scratch1]

/-- The scratch before point `n`: anything before the first, afterwards the running values. -/
def carried (c : Dev nD) : ℕ → sProp 𝕄
  | 0 => iprop((∃ d, owns (c : Thread nD τ) scratchMin fullShare d) ∗ (∃ d, owns (c : Thread nD τ) scratchArg fullShare d))
  | n + 1 => iprop(owns (c : Thread nD τ) scratchMin fullShare (state W c (n + 1)).1 ∗ owns (c : Thread nD τ) scratchArg fullShare (state W c (n + 1)).2)

theorem carried_pos (c : Dev nD) (n : ℕ) (h : n ≠ 0) : carried W c n
    = iprop(owns (c : Thread nD τ) scratchMin fullShare (state W c n).1 ∗ owns (c : Thread nD τ) scratchArg fullShare (state W c n).2) := by
  cases n with
  | zero => exact absurd rfl h
  | succ n => rfl

/-- The proof data of the region on core `c`. -/
def dat (c : Dev nD) : Dat τ (Elt F) Unit ℕ (UR sig nD τ) ℕ cfg0 c where
  A w := W c (Proc.devRef .tc (Pipeline.arrRef spec0 w))
  after w t := match w with
    | ⟨0, _⟩ => blockAt W c 0 t
    | ⟨1, _⟩ => blockAt W c 1 t
    | ⟨2, _⟩ => k0_pay2 (patches W c t) (state W c (t.val + 1)).1
    | ⟨3, _⟩ => cell (F := F) (k0_pay3 (patches W c t) (state W c (t.val + 1)).1)
    | ⟨4, _⟩ => cell (F := F) (k0_pay4 (patches W c t) (state W c (t.val + 1)).1 (state W c (t.val + 1)).2)
  Φ t := iprop(carried W c t.val ∗ others c)
  q _ := fullShare
  owed _ := 0

theorem A_eq (c : Dev nD) (w : Fin cfg0.W) : (dat W c).A w = W c (Proc.devRef .tc (Pipeline.arrRef spec0 w)) := by
  dsimp only [dat]

theorem after_0 (c : Dev nD) (t : Fin cfg0.N) : (dat W c).after 0 t = blockAt W c 0 t := by dsimp only [dat]
theorem after_1 (c : Dev nD) (t : Fin cfg0.N) : (dat W c).after 1 t = blockAt W c 1 t := by dsimp only [dat]
theorem after_2 (c : Dev nD) (t : Fin cfg0.N) : (dat W c).after 2 t = k0_pay2 (patches W c t) (state W c (t.val + 1)).1 := by dsimp only [dat]
theorem after_3 (c : Dev nD) (t : Fin cfg0.N) : (dat W c).after 3 t = cell (F := F) (k0_pay3 (patches W c t) (state W c (t.val + 1)).1) := by dsimp only [dat]
theorem after_4 (c : Dev nD) (t : Fin cfg0.N) :
    (dat W c).after 4 t = cell (F := F) (k0_pay4 (patches W c t) (state W c (t.val + 1)).1 (state W c (t.val + 1)).2) := by dsimp only [dat]

/-- An input's staging buffer holds its block when the body runs. -/
theorem before_0 (c : Dev nD) (t : Fin cfg0.N) (d) : (dat W c).before 0 t d = blockAt W c 0 t :=
  ((dat W c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dat W c).before 1 t d = blockAt W c 1 t :=
  ((dat W c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)

/-- An input's buffer is left at its block. -/
theorem leaves_0 (c : Dev nD) (t : Fin cfg0.N) : (dat W c).leavesExact 0 t = owns (c : Thread nD τ) (st0_0 t) fullShare (blockAt W c 0 t) := by
  unfold Dat.leavesExact; rw [show cfg0.idle 0 (cfg0.grid.coords t) = false from rfl, after_0]
theorem leaves_1 (c : Dev nD) (t : Fin cfg0.N) : (dat W c).leavesExact 1 t = owns (c : Thread nD τ) (st0_1 t) fullShare (blockAt W c 1 t) := by
  unfold Dat.leavesExact; rw [show cfg0.idle 1 (cfg0.grid.coords t) = false from rfl, after_1]

/-- An output is left alone at every point but the last. -/
theorem idle_of (w : Fin cfg0.W) (hw : w = 2 ∨ w = 3 ∨ w = 4) (t : Fin cfg0.N) (h : ¬ k0_cond2 (grid0.coords t) = 1#1) :
    cfg0.idle w (cfg0.grid.coords t) = true := by
  rcases hw with rfl | rfl | rfl <;> exact (by simpa using h : (!(k0_cond2 (grid0.coords t) == 1#1)) = true)
theorem live_of (w : Fin cfg0.W) (hw : w = 2 ∨ w = 3 ∨ w = 4) (t : Fin cfg0.N) (h : k0_cond2 (grid0.coords t) = 1#1) :
    cfg0.idle w (cfg0.grid.coords t) = false := by
  rcases hw with rfl | rfl | rfl <;> exact (by simpa using h : (!(k0_cond2 (grid0.coords t) == 1#1)) = false)
theorem flush_of (w : Fin cfg0.W) (hw : w = 2 ∨ w = 3 ∨ w = 4) (t : Fin cfg0.N) (h : t.val ≠ 49) : (cfg0.win w).flush t = false := by
  have ht : t.val < 50 := Nat.lt_of_lt_of_eq t.isLt N_0
  rcases hw with rfl | rfl | rfl
  · exact Bool.eq_false_iff.mpr fun e => by have := (flush0_2 t).mp e; omega
  · exact Bool.eq_false_iff.mpr fun e => by have := (flush0_3 t).mp e; omega
  · exact Bool.eq_false_iff.mpr fun e => by have := (flush0_4 t).mp e; omega
theorem leaves_idle (c : Dev nD) (w : Fin cfg0.W) (hw : w = 2 ∨ w = 3 ∨ w = 4) (t : Fin cfg0.N) (h : t.val ≠ 49) :
    (dat W c).leavesExact w t = iprop(∃ d, owns (c : Thread nD τ) ((cfg0.win w).stage (cfg0.slots t w)) fullShare ((dat W c).before w t d)) :=
  (dat W c).leavesExact_idle w t (idle_of w hw t fun e => h ((isLast_iff t).mp e)) (flush_of w hw t h)
theorem leaves_live (c : Dev nD) (w : Fin cfg0.W) (hw : w = 2 ∨ w = 3 ∨ w = 4) (t : Fin cfg0.N) (h : t.val = 49) :
    (dat W c).leavesExact w t = owns (c : Thread nD τ) ((cfg0.win w).stage (cfg0.slots t w)) fullShare ((dat W c).after w t) := by
  unfold Dat.leavesExact; rw [live_of w hw t ((isLast_iff t).mpr h)]

/-- What the body is called with at point `t`, window by window, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d)))

/-- and what it returns. -/
def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t
    ∗ (dat W c).leavesExact 3 t ∗ (dat W c).leavesExact 4 t)

set_option maxHeartbeats 4800000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1]
  rw [show (dat W c).owesAt () t.succ = (dat W c).owesAt () t.castSucc from rfl,
    show (dat W c).Φ t.succ = iprop(carried W c (t.val + 1) ∗ others c) from rfl,
    show (dat W c).Φ t.castSucc = iprop(carried W c t.val ∗ others c) from rfl, leaves_0, leaves_1,
    carried_pos W c (t.val + 1) (Nat.succ_ne_zero _), state_succ]
  have hN : t.val < 50 := lt_of_lt_of_eq t.isLt (show cfg0.N = 50 from N_0)
  by_cases h1 : t.val = 49
  · rw [leaves_live W c 2 (by decide) t h1, leaves_live W c 3 (by decide) t h1, leaves_live W c 4 (by decide) t h1, after_2, after_3, after_4, state_succ,
      carried_pos W c t.val (by omega)]
    dsimp only
    iintro ⟨⟨⟨HS0, HS1⟩, HR⟩, Ho, ⟨%d0, H0⟩, ⟨%d1, H1⟩, ⟨%d2, H2⟩, ⟨%d3, H3⟩, ⟨%d4, H4⟩⟩
    iapply (body_last c (grid0.coords t) _ _ _ _ _ _ _ _ _ _ _ _ _ _ (patches W c t) (rows W c t) (fun e => by have := (isFirst_iff t).mp e; omega)
      ((isLast_iff t).mpr h1) _ _ Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR]
    · isplitl [HS0 HS1]
      · isplitl [HS0] <;> iassumption
      iexact HR
    isplitl [Ho]; · iexact Ho
    isplitl [H0]; · iexact H0
    isplitl [H1]; · iexact H1
    isplitl [H2]; · iexact H2
    isplitl [H3]; · iexact H3
    iexact H4
  · rw [leaves_idle W c 2 (by decide) t h1, leaves_idle W c 3 (by decide) t h1, leaves_idle W c 4 (by decide) t h1]
    have hl : ¬ k0_cond2 (grid0.coords t) = 1#1 := fun e => h1 ((isLast_iff t).mp e)
    by_cases h0 : t.val = 0
    · rw [show carried W c t.val = carried W c 0 from by rw [h0], show (state W c t.val) = state W c 0 from by rw [h0], carried.eq_1, state.eq_1]
      dsimp only
      iintro ⟨⟨⟨HS0, HS1⟩, HR⟩, Ho, ⟨%d0, H0⟩, ⟨%d1, H1⟩, H2, H3, H4⟩
      iapply (body_first c (grid0.coords t) _ _ _ _ _ _ _ _ _ _ _ _ _ _ (patches W c t) (rows W c t) ((isFirst_iff t).mpr h0) hl Set.univ _)
      isplitl [H0]; · iexact H0
      isplitl [H1]; · iexact H1
      isplitl [HS0]; · iexact HS0
      isplitl [HS1]; · iexact HS1
      iintro ⟨H0, H1, HS0, HS1⟩
      isplitl [HS0 HS1 HR]
      · isplitl [HS0 HS1]
        · isplitl [HS0] <;> iassumption
        iexact HR
      isplitl [Ho]; · iexact Ho
      isplitl [H0]; · iexact H0
      isplitl [H1]; · iexact H1
      isplitl [H2]; · iexact H2
      isplitl [H3]; · iexact H3
      iexact H4
    · rw [carried_pos W c t.val h0]
      iintro ⟨⟨⟨HS0, HS1⟩, HR⟩, Ho, ⟨%d0, H0⟩, ⟨%d1, H1⟩, H2, H3, H4⟩
      iapply (body_mid c (grid0.coords t) _ _ _ _ _ _ _ _ _ _ _ _ _ _ (patches W c t) (rows W c t) (fun e => h0 ((isFirst_iff t).mp e)) hl _ _ Set.univ _)
      isplitl [H0]; · iexact H0
      isplitl [H1]; · iexact H1
      isplitl [HS0]; · iexact HS0
      isplitl [HS1]; · iexact HS1
      iintro ⟨H0, H1, HS0, HS1⟩
      isplitl [HS0 HS1 HR]
      · isplitl [HS0 HS1]
        · isplitl [HS0] <;> iassumption
        iexact HR
      isplitl [Ho]; · iexact Ho
      isplitl [H0]; · iexact H0
      isplitl [H1]; · iexact H1
      isplitl [H2]; · iexact H2
      isplitl [H3]; · iexact H3
      iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dat W c) (defs₀ (F := F)) Variants.none () Set.univ := fun t => by
  rw [bigSep_W0, bigSep_W0, body_row]
  exact triple_restated (sound_body W c t) rfl .rfl fun _ => .rfl

/-- The scratch split off the buffers no window stages. -/
theorem rest_split (c : Dev nD) : (Pipeline.scopedRest (Val := Elt F) spec0 c : sProp 𝕄) = iprop(carried W c 0 ∗ others c) := by
  rw [Pipeline.scopedRest_split_of_list spec0 c [cc0_scratch0, cc0_scratch1] (by decide) (by decide), carried.eq_1]
  simp only [scratchMin, scratchArg, owns_whole]; try rfl

theorem enter (c : Dev nD) : iprop(Pipeline.scopedRest (Val := Elt F) spec0 c ∗ BI.emp) ⊢ (dat W c).Φ 0 := by
  rw [show (dat W c).Φ 0 = iprop(carried W c 0 ∗ others c) from rfl, rest_split W c]
  iintro ⟨H, -⟩; iexact H

theorem leave (c : Dev nD) : (dat W c).Φ (Fin.last cfg0.N) ⊢ iprop(Pipeline.scopedRest (Val := Elt F) spec0 c ∗ BI.emp) := by
  rw [show (dat W c).Φ (Fin.last cfg0.N) = iprop(carried W c cfg0.N ∗ others c) from rfl, rest_split W c,
    carried_pos W c cfg0.N (by rw [show cfg0.N = 50 from N_0]; decide), carried.eq_1]
  iintro ⟨⟨HS0, HS1⟩, HR⟩
  isplitl
  · isplitl [HS0 HS1]
    · isplitl [HS0]
      · iexists _; iexact HS0
      iexists _; iexact HS1
    iexact HR
  iempintro

end Cert.Proof.Region0

end
-- ==== Proof.Region1.lean ====
/-
  The query region: the kernel's second call, twenty-five blocks of four thousand memory rows.  Block after block it
  writes the squared distances from the chosen memory row into one row of a table; the last block looks the table's
  second and third smallest entries up.
-/
module

public import proofs.«01_k».proof.Proof.Region0
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Proof.Region1

open Cert.Proof.Region0 (cell)
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The last point -/

theorem coord1 (t : Fin cfg1.N) : (grid1.coords t 0).val = t.val := by
  have ht : t.val < 25 := Nat.lt_of_lt_of_eq t.isLt N_1
  have e0 : (grid1.coords t 0).val = t.val / 1 % 25 := Pipeline.Grid.coords_val t 0 (by decide) rfl
  omega

theorem isLast_iff (t : Fin cfg1.N) : k1_cond1 (grid1.coords t) = 1#1 ↔ t.val = 24 := by
  have ht : t.val < 25 := Nat.lt_of_lt_of_eq t.isLt N_1
  have e0 := coord1 t
  simp only [k1_cond1, e0]
  word_cmp

/-! ## The body, run once per kind of point -/

section Body

variable (c : Dev nD) (i : grid1.Coords) (arg1 : Memref sig .tc .vmem S1x384 .f32) (harg1 : arg1.IsWhole)
  (arg2 : Memref sig .tc .vmem S4000x384 .f32) (harg2 : arg2.IsWhole) (arg3 : Memref sig .tc .smem S1x1 .i32) (harg3 : arg3.IsWhole)
  (arg4 : Memref sig .tc .smem S1x1 .i32) (harg4 : arg4.IsWhole) (arg5 : Memref sig .tc .vmem S25x4000 .f32) (harg5 : arg5.IsWhole)
  (x0 : Vec F S1x384 .f32) (x1 : Vec F S4000x384 .f32)

/-- The table with point `i`'s row written. -/
abbrev nextTable (i : grid1.Coords) (x0 : Vec F S1x384 .f32) (x1 : Vec F S4000x384 .f32) (s : Vec F S25x4000 .f32) : Vec F S25x4000 .f32 :=
  VecWindow.put (s := S25x4000) s (k1_off1 i) S1x4000.size (k1_pay1 x1 x0)

/-- A point before the last: one row of the table is written. -/
theorem body_mid (hc : ¬ k1_cond1 i = 1#1) (s : Vec F S25x4000 .f32) (E : Set ℕ) (K : PUnit → sProp 𝕄) :
    iprop(owns (c : Thread nD τ) arg1 fullShare x0 ∗ owns (c : Thread nD τ) arg2 fullShare x1 ∗ owns (c : Thread nD τ) arg5 fullShare s
        ∗ (iprop(owns (c : Thread nD τ) arg1 fullShare x0 ∗ owns (c : Thread nD τ) arg2 fullShare x1
            ∗ owns (c : Thread nD τ) arg5 fullShare (nextTable i x0 x1 s)) -∗ K ⟨⟩))
      ⊢ wp frame (wpE (defs₀ (F := F)) Variants.none c none) E (cc1_body i arg1 harg1 arg2 harg2 arg3 harg3 arg4 harg4 arg5 harg5) K := by
  simp only [cc1_body_eq_skeleton]; unfold cc1_body_skel
  simp only [k1_part1_eq_skeleton]
  unfold owns
  iintro ⟨⟨%f0, %hf0, H0⟩, ⟨%f1, %hf1, H1⟩, ⟨%g, %hg, HS⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact HS
  ipureintro; frame_out
  rw [View.read_writes_cons_put arg5.view _ (k1_off1_inb i) _ _ rfl, View.writes_nil, hg]

/-- The last point: the table's last row is written and the two positions are stored. -/
theorem body_last (hc : k1_cond1 i = 1#1) (s : Vec F S25x4000 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ owns (c : Thread nD τ) arg5 fullShare s
        ∗ (iprop(owns (c : Thread nD τ) arg1 fullShare x0 ∗ owns (c : Thread nD τ) arg2 fullShare x1
            ∗ owns (c : Thread nD τ) arg3 fullShare (cell (F := F) (k1_pay5 (nextTable i x0 x1 s)))
            ∗ owns (c : Thread nD τ) arg4 fullShare (cell (F := F) (k1_pay2 (k1_pay6 (nextTable i x0 x1 s))))
            ∗ owns (c : Thread nD τ) arg5 fullShare (nextTable i x0 x1 s)) -∗ K ⟨⟩))
      ⊢ wp frame (wpE (defs₀ (F := F)) Variants.none c none) E (cc1_body i arg1 harg1 arg2 harg2 arg3 harg3 arg4 harg4 arg5 harg5) K := by
  have hput : ∀ g : arg5.view.ty.Contents (Elt F), arg5.view.read (Elt F) g = s →
      arg5.view.read (Elt F) (arg5.view.writes (Elt F) g [⟨Rect.unit (k1_off1 i) S1x4000.size (k1_off1_inb i), k1_pay1 x1 x0⟩]) = nextTable i x0 x1 s := fun g hg => by
    rw [View.read_writes_cons_put arg5.view _ (k1_off1_inb i) _ _ rfl, View.writes_nil, hg]
  simp only [cc1_body_eq_skeleton]; unfold cc1_body_skel
  simp only [k1_part1_eq_skeleton]
  unfold owns
  iintro ⟨⟨%f0, %hf0, H0⟩, ⟨%f1, %hf1, H1⟩, ⟨%d2, %f2, -, H2⟩, ⟨%d3, %f3, -, H3⟩, ⟨%g, %hg, HS⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; frame_out
    refine (View.read_writes_full _ _ inb_S1x1_S1x1_0_0 _ _).trans ?_
    exact congrArg (fun v => cell (F := F) (k1_pay5 v)) (hput _ hg)
  isplitl [H3]
  · iexists _; isplitr; swap; · iexact H3
    ipureintro; frame_out
    refine (View.read_writes_full _ _ inb_S1x1_S1x1_0_0 _ _).trans ?_
    exact congrArg (fun v => cell (F := F) (k1_pay2 (k1_pay6 v))) (hput _ hg)
  iexists _; isplitr; swap; · iexact HS
  ipureintro; frame_out
  exact hput _ hg

end Body

/-! ## The region's proof data, from any contents at entry -/

variable (W : Dev nD → Valuation τ sig (Elt F))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The chosen memory row. -/
abbrev query (c : Dev nD) (t : Fin cfg1.N) : Vec F S1x384 .f32 := blockAt W c 0 t
/-- The block of memory rows of point `t`. -/
abbrev rows (c : Dev nD) (t : Fin cfg1.N) : Vec F S4000x384 .f32 := blockAt W c 1 t

/-- The point that writes row `r` of the table. -/
def rowPoint (r : Fin 25) : Fin cfg1.N := ⟨r.val, lt_of_lt_of_eq r.isLt N_1.symm⟩

/-- The finished table: row by row, what each point writes. -/
def table (c : Dev nD) : Vec F S25x4000 .f32 := fun x =>
  k1_pay1 (rows W c (rowPoint (x 0))) (query W c (rowPoint (x 0))) (Fin.cons (0 : Fin 1) (Fin.cons (x 1) (fun a => a.elim0)))

/-- Writing point `t`'s row extends the finished part of the table by it. -/
theorem nextTable_eq (c : Dev nD) (t : Fin cfg1.N) (s : Vec F S25x4000 .f32) (hs : ∀ x, (x 0).val < t.val → s x = table W c x) (x : S25x4000.Idx)
    (hx : (x 0).val < t.val + 1) : nextTable (grid1.coords t) (query W c t) (rows W c t) s x = table W c x := by
  have e : k1_off1 (grid1.coords t) = ![t.val, 0] := by rw [k1_off1_eq, coord1]
  unfold nextTable
  rw [e]; unfold VecWindow.put
  by_cases h : (x 0).val = t.val
  · have hin : ∀ a : Fin S25x4000.rank, (![t.val, 0] : Fin 2 → ℕ) a ≤ (x a).val ∧ (x a).val < (![t.val, 0] : Fin 2 → ℕ) a + S1x4000.size a := by
      intro a
      match a with
      | ⟨0, _⟩ => exact ⟨le_of_eq h.symm, by show (x 0).val < t.val + 1; omega⟩
      | ⟨1, _⟩ => exact ⟨Nat.zero_le _, by show (x 1).val < 0 + 4000; have : (x 1).val < 4000 := (x 1).isLt; omega⟩
    rw [dif_pos hin]; unfold table
    rw [show rowPoint (x 0) = t from Fin.ext h]
    refine congrArg (k1_pay1 (rows W c t) (query W c t)) (funext fun a => Fin.ext ?_)
    match a with
    | ⟨0, _⟩ => show (x 0).val - t.val = 0; omega
    | ⟨1, _⟩ => show (x 1).val - 0 = (x 1).val; omega
  · rw [dif_neg (fun hin => by
      have h0 := hin 0
      have e1 : (![t.val, 0] : Fin 2 → ℕ) 0 = t.val := rfl
      omega)]
    exact hs x (by omega)

/-- The scratch. -/
abbrev scratch : Memref sig .tc .vmem S25x4000 .f32 := Memref.whole cc1_scratch0

/-- The other calls' buffers, which the region carries unopened. -/
abbrev others (c : Dev nD) : sProp 𝕄 := Pipeline.scopedRestBut (Val := Elt F) spec1 c [cc1_scratch0]

/-- The scratch before point `n`: its first `n` rows are the finished table's. -/
def carried (c : Dev nD) (n : ℕ) : sProp 𝕄 :=
  iprop(∃ s : Vec F S25x4000 .f32, ⌜∀ x : S25x4000.Idx, (x 0).val < n → s x = table W c x⌝ ∗ owns (c : Thread nD τ) scratch fullShare s)

/-- The proof data of the region on core `c`. -/
def dat (c : Dev nD) : Dat τ (Elt F) Unit ℕ (UR sig nD τ) ℕ cfg1 c where
  A w := W c (Proc.devRef .tc (Pipeline.arrRef spec1 w))
  after w t := match w with
    | ⟨0, _⟩ => blockAt W c 0 t
    | ⟨1, _⟩ => blockAt W c 1 t
    | ⟨2, _⟩ => cell (F := F) (k1_pay5 (table W c))
    | ⟨3, _⟩ => cell (F := F) (k1_pay2 (k1_pay6 (table W c)))
  Φ t := iprop(carried W c t.val ∗ others c)
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = blockAt W c 0 t := by dsimp only [dat]
theorem after_1 (c : Dev nD) (t : Fin cfg1.N) : (dat W c).after 1 t = blockAt W c 1 t := by dsimp only [dat]
theorem after_2 (c : Dev nD) (t : Fin cfg1.N) : (dat W c).after 2 t = cell (F := F) (k1_pay5 (table W c)) := by dsimp only [dat]
theorem after_3 (c : Dev nD) (t : Fin cfg1.N) : (dat W c).after 3 t = cell (F := F) (k1_pay2 (k1_pay6 (table W c))) := by dsimp only [dat]

/-- An input's staging buffer holds its block when the body runs. -/
theorem before_0 (c : Dev nD) (t : Fin cfg1.N) (d) : (dat W c).before 0 t d = blockAt W c 0 t :=
  ((dat W c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin cfg1.N) (d) : (dat W c).before 1 t d = blockAt W c 1 t :=
  ((dat W c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)

/-- An input's buffer is left at its block. -/
theorem leaves_0 (c : Dev nD) (t : Fin cfg1.N) : (dat W c).leavesExact 0 t = owns (c : Thread nD τ) (st1_0 t) fullShare (blockAt W c 0 t) := by
  unfold Dat.leavesExact; rw [show cfg1.idle 0 (cfg1.grid.coords t) = false from rfl, after_0]
theorem leaves_1 (c : Dev nD) (t : Fin cfg1.N) : (dat W c).leavesExact 1 t = owns (c : Thread nD τ) (st1_1 t) fullShare (blockAt W c 1 t) := by
  unfold Dat.leavesExact; rw [show cfg1.idle 1 (cfg1.grid.coords t) = false from rfl, after_1]

/-- An output is left alone at every point but the last. -/
theorem idle_of (w : Fin cfg1.W) (hw : w = 2 ∨ w = 3) (t : Fin cfg1.N) (h : ¬ k1_cond1 (grid1.coords t) = 1#1) :
    cfg1.idle w (cfg1.grid.coords t) = true := by
  rcases hw with rfl | rfl <;> exact (by simpa using h : (!(k1_cond1 (grid1.coords t) == 1#1)) = true)
theorem live_of (w : Fin cfg1.W) (hw : w = 2 ∨ w = 3) (t : Fin cfg1.N) (h : k1_cond1 (grid1.coords t) = 1#1) :
    cfg1.idle w (cfg1.grid.coords t) = false := by
  rcases hw with rfl | rfl <;> exact (by simpa using h : (!(k1_cond1 (grid1.coords t) == 1#1)) = false)
theorem flush_of (w : Fin cfg1.W) (hw : w = 2 ∨ w = 3) (t : Fin cfg1.N) (h : t.val ≠ 24) : (cfg1.win w).flush t = false := by
  have ht : t.val < 25 := Nat.lt_of_lt_of_eq t.isLt N_1
  rcases hw with rfl | rfl
  · exact Bool.eq_false_iff.mpr fun e => by have := (flush1_2 t).mp e; omega
  · exact Bool.eq_false_iff.mpr fun e => by have := (flush1_3 t).mp e; omega
theorem leaves_idle (c : Dev nD) (w : Fin cfg1.W) (hw : w = 2 ∨ w = 3) (t : Fin cfg1.N) (h : t.val ≠ 24) :
    (dat W c).leavesExact w t = iprop(∃ d, owns (c : Thread nD τ) ((cfg1.win w).stage (cfg1.slots t w)) fullShare ((dat W c).before w t d)) :=
  (dat W c).leavesExact_idle w t (idle_of w hw t fun e => h ((isLast_iff t).mp e)) (flush_of w hw t h)
theorem leaves_live (c : Dev nD) (w : Fin cfg1.W) (hw : w = 2 ∨ w = 3) (t : Fin cfg1.N) (h : t.val = 24) :
    (dat W c).leavesExact w t = owns (c : Thread nD τ) ((cfg1.win w).stage (cfg1.slots t w)) fullShare ((dat W c).after w t) := by
  unfold Dat.leavesExact; rw [live_of w hw t ((isLast_iff t).mpr h)]

/-- What the body is called with at point `t`, window by window, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d)))

/-- and what it returns. -/
def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t)

set_option maxHeartbeats 4800000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1]
  rw [show (dat W c).owesAt () t.succ = (dat W c).owesAt () t.castSucc from rfl,
    show (dat W c).Φ t.succ = iprop(carried W c (t.val + 1) ∗ others c) from rfl,
    show (dat W c).Φ t.castSucc = iprop(carried W c t.val ∗ others c) from rfl, leaves_0, leaves_1]
  have hN : t.val < 25 := lt_of_lt_of_eq t.isLt (show cfg1.N = 25 from N_1)
  unfold carried
  by_cases h1 : t.val = 24
  · rw [leaves_live W c 2 (by decide) t h1, leaves_live W c 3 (by decide) t h1, after_2, after_3]
    iintro ⟨⟨⟨%s, %hs, HS⟩, HR⟩, Ho, ⟨%d0, H0⟩, ⟨%d1, H1⟩, ⟨%d2, H2⟩, ⟨%d3, H3⟩⟩
    have hn := nextTable_eq W c t s hs
    have hfull : nextTable (grid1.coords t) (query W c t) (rows W c t) s = table W c := funext fun x => hn x (by
      have : (x 0).val < 25 := (x 0).isLt
      omega)
    iapply (body_last c (grid1.coords t) _ _ _ _ _ _ _ _ _ _ (query W c t) (rows W c t) ((isLast_iff t).mpr h1) s Set.univ _)
    isplitl [H0]; · iexact H0
    isplitl [H1]; · iexact H1
    isplitl [H2]; · iexists _; iexact H2
    isplitl [H3]; · iexists _; iexact H3
    isplitl [HS]; · iexact HS
    rw [hfull]
    iintro ⟨H0, H1, H2, H3, HS⟩
    isplitl [HS HR]
    · isplitl [HS]
      · iexists _; isplitr; swap; · iexact HS
        ipureintro; exact fun _ _ => rfl
      iexact HR
    isplitl [Ho]; · iexact Ho
    isplitl [H0]; · iexact H0
    isplitl [H1]; · iexact H1
    isplitl [H2]; · iexact H2
    iexact H3
  · rw [leaves_idle W c 2 (by decide) t h1, leaves_idle W c 3 (by decide) t h1]
    iintro ⟨⟨⟨%s, %hs, HS⟩, HR⟩, Ho, ⟨%d0, H0⟩, ⟨%d1, H1⟩, H2, H3⟩
    have hn := nextTable_eq W c t s hs
    iapply (body_mid c (grid1.coords t) _ _ _ _ _ _ _ _ _ _ (query W c t) (rows W c t) (fun e => h1 ((isLast_iff t).mp e)) s Set.univ _)
    isplitl [H0]; · iexact H0
    isplitl [H1]; · iexact H1
    isplitl [HS]; · iexact HS
    iintro ⟨H0, H1, HS⟩
    isplitl [HS HR]
    · isplitl [HS]
      · iexists _; isplitr; swap; · iexact HS
        ipureintro; exact hn
      iexact HR
    isplitl [Ho]; · iexact Ho
    isplitl [H0]; · iexact H0
    isplitl [H1]; · iexact H1
    isplitl [H2]; · iexact H2
    iexact H3

theorem body_row (t : Fin cfg1.N) : defs₀ (F := F) .tc cfg1.body (cfg1.bodyArgs t (cfg1.slots t)) = bodyAt1 t := by
  unfold defs₀; rw [Defs.onTc_tc]

theorem body_obligation (c : Dev nD) : BodyObligation (dat W c) (defs₀ (F := F)) Variants.none () Set.univ := fun t => by
  rw [bigSep_W1, bigSep_W1, body_row]
  exact triple_restated (sound_body W c t) rfl .rfl fun _ => .rfl

/-- The scratch split off the buffers no window stages. -/
theorem rest_split (c : Dev nD) : (Pipeline.scopedRest (Val := Elt F) spec1 c : sProp 𝕄)
    = iprop((∃ s : Vec F S25x4000 .f32, owns (c : Thread nD τ) scratch fullShare s) ∗ others c) := by
  rw [Pipeline.scopedRest_split_of_list spec1 c [cc1_scratch0] (by decide) (by decide)]
  simp only [scratch, owns_whole]; try rfl

theorem enter (c : Dev nD) : iprop(Pipeline.scopedRest (Val := Elt F) spec1 c ∗ BI.emp) ⊢ (dat W c).Φ 0 := by
  rw [show (dat W c).Φ 0 = iprop(carried W c 0 ∗ others c) from rfl, rest_split c]
  unfold carried
  iintro ⟨⟨⟨%s, HS⟩, HR⟩, -⟩
  isplitl [HS]
  · iexists _; isplitr; swap; · iexact HS
    ipureintro; exact fun _ h => absurd h (Nat.not_lt_zero _)
  iexact HR

theorem leave (c : Dev nD) : (dat W c).Φ (Fin.last cfg1.N) ⊢ iprop(Pipeline.scopedRest (Val := Elt F) spec1 c ∗ BI.emp) := by
  rw [show (dat W c).Φ (Fin.last cfg1.N) = iprop(carried W c cfg1.N ∗ others c) from rfl, rest_split c]
  unfold carried
  iintro ⟨⟨%s, -, HS⟩, HR⟩
  isplitl
  · isplitl [HS]
    · iexists _; iexact HS
    iexact HR
  iempintro

end Cert.Proof.Region1
-- ==== Proof.Region2.lean ====
/-
  The finishing region: the kernel's third call, a single point.  It computes the score from the distances, the most
  distant patch and the two further neighbours, and resizes the distance map.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Proof.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The one index of a one-by-one array. -/
abbrev origin : S1x1.Idx := fun a => ⟨0, by revert a; decide⟩

theorem idx_one (x y : S1x1.Idx) : x = y := funext fun a => Fin.ext (by
  have h1 : ∀ b : Fin 2, S1x1.size b = 1 := by decide
  have hx : (x a).val < S1x1.size a := (x a).isLt
  have hy : (y a).val < S1x1.size a := (y a).isLt
  have := h1 a
  omega)

/-! ## The body -/

section Body

variable (c : Dev nD)
  (arg0 : Memref sig .tc .vmem S28x28 .f32) (harg0 : arg0.IsWhole)
  (arg1 : Memref sig .tc .vmem S784x384 .f32) (harg1 : arg1.IsWhole)
  (arg2 : Memref sig .tc .vmem S1x384 .f32) (harg2 : arg2.IsWhole)
  (arg3 : Memref sig .tc .vmem S1x384 .f32) (harg3 : arg3.IsWhole)
  (arg4 : Memref sig .tc .smem S1x1 .i32) (harg4 : arg4.IsWhole)
  (arg5 : Memref sig .tc .vmem S224x28 .f32) (harg5 : arg5.IsWhole)
  (arg6 : Memref sig .tc .smem S1x1 .f32) (harg6 : arg6.IsWhole)
  (arg7 : Memref sig .tc .vmem S224x224 .f32) (harg7 : arg7.IsWhole)
  (x0 : Vec F S28x28 .f32) (x1 : Vec F S784x384 .f32) (x2 : Vec F S1x384 .f32) (x3 : Vec F S1x384 .f32) (x4 : Vec F S1x1 .i32) (x5 : Vec F S224x28 .f32)

/-- The score the region stores. -/
abbrev score (x0 : Vec F S28x28 .f32) (x1 : Vec F S784x384 .f32) (x2 x3 : Vec F S1x384 .f32) (x4 : Vec F S1x1 .i32) : Vec F S1x1 .f32 :=
  fun _ => k2_pay1 (k2_pay4 x0) (k2_pay5 x0) (k2_pay6 x1 (x4 origin) x2 x3)
/-- The map the region stores. -/
abbrev segm (x0 : Vec F S28x28 .f32) (x5 : Vec F S224x28 .f32) : Vec F S224x224 .f32 := k2_pay2 (k2_pay3 x0) x5

theorem body_run (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (score x0 x1 x2 x3 x4) ∗ owns (c : Thread nD τ) arg7 fullShare (segm x0 x5)) -∗ K ⟨⟩))
      ⊢ wp frame (wpE (defs₀ (F := F)) Variants.none c none) E (cc2_body arg0 harg0 arg1 harg1 arg2 harg2 arg3 harg3 arg4 harg4 arg5 harg5 arg6 harg6 arg7 harg7) K := by
  simp only [cc2_body_eq_skeleton]; unfold cc2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro; frame_out; refine (View.read_writes_full arg6.view _ inb_S1x1_S1x1_0_0 _ _).trans ?_; exact funext fun _ => congrArg (fun w => k2_pay1 _ _ (k2_pay6 x1 w x2 x3)) (congrArg x4 (idx_one _ _))
  iexists _; isplitr; swap; · iexact H7
  ipureintro; frame_out; exact View.read_writes_full _ _ inb_S224x224_S224x224_0_0 _ _

end Body

/-! ## The region's proof data, from any contents at entry -/

variable (W : Dev nD → Valuation τ sig (Elt F))

/-- Window `w`'s block, read off its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The proof data of the region on core `c`. -/
def dat (c : Dev nD) : Dat τ (Elt F) Unit ℕ (UR sig nD τ) ℕ cfg2 c where
  A w := W c (Proc.devRef .tc (Pipeline.arrRef spec2 w))
  after w t := match w with
    | ⟨0, _⟩ => blockAt W c 0 t
    | ⟨1, _⟩ => blockAt W c 1 t
    | ⟨2, _⟩ => blockAt W c 2 t
    | ⟨3, _⟩ => blockAt W c 3 t
    | ⟨4, _⟩ => blockAt W c 4 t
    | ⟨5, _⟩ => blockAt W c 5 t
    | ⟨6, _⟩ => score (F := F) (blockAt W c 0 t) (blockAt W c 1 t) (blockAt W c 2 t) (blockAt W c 3 t) (blockAt W c 4 t)
    | ⟨7, _⟩ => segm (F := F) (blockAt W c 0 t) (blockAt W c 5 t)
  Φ _ := Pipeline.scopedRest (Val := Elt F) spec2 c
  q _ := fullShare
  owed _ := 0

theorem A_eq (c : Dev nD) (w : Fin cfg2.W) : (dat W c).A w = W c (Proc.devRef .tc (Pipeline.arrRef spec2 w)) := by
  dsimp only [dat]

theorem after_0 (c : Dev nD) (t : Fin cfg2.N) : (dat W c).after 0 t = blockAt W c 0 t := by dsimp only [dat]
theorem after_1 (c : Dev nD) (t : Fin cfg2.N) : (dat W c).after 1 t = blockAt W c 1 t := by dsimp only [dat]
theorem after_2 (c : Dev nD) (t : Fin cfg2.N) : (dat W c).after 2 t = blockAt W c 2 t := by dsimp only [dat]
theorem after_3 (c : Dev nD) (t : Fin cfg2.N) : (dat W c).after 3 t = blockAt W c 3 t := by dsimp only [dat]
theorem after_4 (c : Dev nD) (t : Fin cfg2.N) : (dat W c).after 4 t = blockAt W c 4 t := by dsimp only [dat]
theorem after_5 (c : Dev nD) (t : Fin cfg2.N) : (dat W c).after 5 t = blockAt W c 5 t := by dsimp only [dat]
theorem after_6 (c : Dev nD) (t : Fin cfg2.N) : (dat W c).after 6 t
    = score (F := F) (blockAt W c 0 t) (blockAt W c 1 t) (blockAt W c 2 t) (blockAt W c 3 t) (blockAt W c 4 t) := by dsimp only [dat]
theorem after_7 (c : Dev nD) (t : Fin cfg2.N) : (dat W c).after 7 t = segm (F := F) (blockAt W c 0 t) (blockAt W c 5 t) := by dsimp only [dat]

/-- An input's staging buffer holds its block when the body runs, and is left at it. -/
theorem before_0 (c : Dev nD) (t : Fin cfg2.N) (d) : (dat W c).before 0 t d = blockAt W c 0 t :=
  ((dat W c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin cfg2.N) (d) : (dat W c).before 1 t d = blockAt W c 1 t :=
  ((dat W c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)
theorem before_2 (c : Dev nD) (t : Fin cfg2.N) (d) : (dat W c).before 2 t d = blockAt W c 2 t :=
  ((dat W c).before_in_eq_fetched 2 rfl (fun _ => rfl) (fun _ _ _ => rfl) (fun t => by rw [after_2]; unfold Dat.blockOf blockAt; rw [A_eq]; try rfl) t d).trans
    (by unfold Dat.fetched Dat.blockOf blockAt; rw [A_eq]; try rfl)
theorem before_3 (c : Dev nD) (t : Fin cfg2.N) (d) : (dat W c).before 3 t d = blockAt W c 3 t :=
  ((dat W c).before_in_eq_fetched 3 rfl (fun _ => rfl) (fun _ _ _ => rfl) (fun t => by rw [after_3]; unfold Dat.blockOf blockAt; rw [A_eq]; try rfl) t d).trans
    (by unfold Dat.fetched Dat.blockOf blockAt; rw [A_eq]; try rfl)
theorem before_4 (c : Dev nD) (t : Fin cfg2.N) (d) : (dat W c).before 4 t d = blockAt W c 4 t :=
  ((dat W c).before_in_eq_fetched 4 rfl (fun _ => rfl) (fun _ _ _ => rfl) (fun t => by rw [after_4]; unfold Dat.blockOf blockAt; rw [A_eq]; try rfl) t d).trans
    (by unfold Dat.fetched Dat.blockOf blockAt; rw [A_eq]; try rfl)
theorem before_5 (c : Dev nD) (t : Fin cfg2.N) (d) : (dat W c).before 5 t d = blockAt W c 5 t :=
  ((dat W c).before_in_eq_fetched 5 rfl (fun _ => rfl) (fun _ _ _ => rfl) (fun t => by rw [after_5]; unfold Dat.blockOf blockAt; rw [A_eq]; try rfl) t d).trans
    (by unfold Dat.fetched Dat.blockOf blockAt; rw [A_eq]; try rfl)
theorem leaves_0 (c : Dev nD) (t : Fin cfg2.N) : (dat W c).leavesExact 0 t = owns (c : Thread nD τ) (st2_0 t) fullShare ((dat W c).after 0 t) := by
  unfold Dat.leavesExact; rw [show cfg2.idle 0 (cfg2.grid.coords t) = false from rfl]
theorem leaves_1 (c : Dev nD) (t : Fin cfg2.N) : (dat W c).leavesExact 1 t = owns (c : Thread nD τ) (st2_1 t) fullShare ((dat W c).after 1 t) := by
  unfold Dat.leavesExact; rw [show cfg2.idle 1 (cfg2.grid.coords t) = false from rfl]
theorem leaves_2 (c : Dev nD) (t : Fin cfg2.N) : (dat W c).leavesExact 2 t = owns (c : Thread nD τ) (st2_2 t) fullShare ((dat W c).after 2 t) := by
  unfold Dat.leavesExact; rw [show cfg2.idle 2 (cfg2.grid.coords t) = false from rfl]
theorem leaves_3 (c : Dev nD) (t : Fin cfg2.N) : (dat W c).leavesExact 3 t = owns (c : Thread nD τ) (st2_3 t) fullShare ((dat W c).after 3 t) := by
  unfold Dat.leavesExact; rw [show cfg2.idle 3 (cfg2.grid.coords t) = false from rfl]
theorem leaves_4 (c : Dev nD) (t : Fin cfg2.N) : (dat W c).leavesExact 4 t = owns (c : Thread nD τ) (st2_4 t) fullShare ((dat W c).after 4 t) := by
  unfold Dat.leavesExact; rw [show cfg2.idle 4 (cfg2.grid.coords t) = false from rfl]
theorem leaves_5 (c : Dev nD) (t : Fin cfg2.N) : (dat W c).leavesExact 5 t = owns (c : Thread nD τ) (st2_5 t) fullShare ((dat W c).after 5 t) := by
  unfold Dat.leavesExact; rw [show cfg2.idle 5 (cfg2.grid.coords t) = false from rfl]
theorem leaves_6 (c : Dev nD) (t : Fin cfg2.N) : (dat W c).leavesExact 6 t = owns (c : Thread nD τ) (st2_6 t) fullShare ((dat W c).after 6 t) := by
  unfold Dat.leavesExact; rw [show cfg2.idle 6 (cfg2.grid.coords t) = false from rfl]
theorem leaves_7 (c : Dev nD) (t : Fin cfg2.N) : (dat W c).leavesExact 7 t = owns (c : Thread nD τ) (st2_7 t) fullShare ((dat W c).after 7 t) := by
  unfold Dat.leavesExact; rw [show cfg2.idle 7 (cfg2.grid.coords t) = false from rfl]

/-- What the body is called with, window by window, -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d))
    ∗ (∃ d, owns (c : Thread nD τ) (st2_7 t) fullShare ((dat W c).before 7 t d)))

/-- and what it returns. -/
def bodyPost (c : Dev nD) (t : Fin cfg2.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t ∗ (dat W c).leavesExact 7 t)

set_option maxHeartbeats 4800000 in
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, before_4, before_5]
  rw [show (dat W c).owesAt () t.succ = (dat W c).owesAt () t.castSucc from rfl, show (dat W c).Φ t.succ = (dat W c).Φ t.castSucc from rfl,
    leaves_0, leaves_1, leaves_2, leaves_3, leaves_4, leaves_5, leaves_6, leaves_7, after_0, after_1, after_2, after_3, after_4, after_5, after_6, after_7]
  iintro ⟨HR, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ (blockAt W c 0 t) (blockAt W c 1 t) (blockAt W c 2 t) (blockAt W c 3 t) (blockAt W c 4 t) (blockAt W c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg2.N) : defs₀ (F := F) .tc cfg2.body (cfg2.bodyArgs t (cfg2.slots t)) = bodyAt2 t := by
  unfold defs₀; rw [Defs.onTc_tc]

theorem body_obligation (c : Dev nD) : BodyObligation (dat W c) (defs₀ (F := F)) Variants.none () Set.univ := fun t => by
  rw [bigSep_W2, bigSep_W2, body_row]
  exact triple_restated (sound_body W c t) rfl .rfl fun _ => .rfl

theorem enter (c : Dev nD) : iprop(Pipeline.scopedRest (Val := Elt F) spec2 c ∗ BI.emp) ⊢ (dat W c).Φ 0 := by
  rw [show (dat W c).Φ 0 = Pipeline.scopedRest (Val := Elt F) spec2 c from rfl]
  iintro ⟨H, -⟩; iexact H

theorem leave (c : Dev nD) : (dat W c).Φ (Fin.last cfg2.N) ⊢ iprop(Pipeline.scopedRest (Val := Elt F) spec2 c ∗ BI.emp) := by
  rw [show (dat W c).Φ (Fin.last cfg2.N) = Pipeline.scopedRest (Val := Elt F) spec2 c from rfl]
  iintro H
  isplitl; · iexact H
  iempintro

end Cert.Proof.Region2
-- ==== Proof.Run.lean ====
/-
  The kernel's run as a whole: host operations, the nearest-neighbour region, host operations, the query region, host
  operations, the finishing region, host operations.  Every buffer's final contents are named by following the run's
  stretches one after another.
-/
module

public import proofs.«01_k».proof.Proof.Region1
public import proofs.«01_k».proof.Proof.Region2

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg afterRegion)

variable {F : FTy → Type} [FloatOps F] [Named F]

local notation "𝕄" => MT nD τ sig Unit (Elt F) ℕ (UR sig nD τ) ℕ

variable (m : (ℓ : Loc nD τ sig) → Buf (Elt F) ℓ)

/-! ## The buffers between the stretches -/

/-- The buffers when the first region is entered, -/
def U1 (c : Dev nD) : Valuation τ sig (Elt F) := StableHlo.after hostOps0 (fun b => m (c, b))
/-- when it is left, -/
def U2 (c : Dev nD) : Valuation τ sig (Elt F) := afterRegion (Region0.dat (U1 m) c) (U1 m c)
/-- when the second region is entered, -/
def U3 (c : Dev nD) : Valuation τ sig (Elt F) := StableHlo.after hostOps1 (U2 m c)
/-- when it is left, -/
def U4 (c : Dev nD) : Valuation τ sig (Elt F) := afterRegion (Region1.dat (U3 m) c) (U3 m c)
/-- when the third region is entered, -/
def U5 (c : Dev nD) : Valuation τ sig (Elt F) := StableHlo.after hostOps2 (U4 m c)
/-- when it is left, -/
def U6 (c : Dev nD) : Valuation τ sig (Elt F) := afterRegion (Region2.dat (U5 m) c) (U5 m c)
/-- and at the end. -/
def U7 (c : Dev nD) : Valuation τ sig (Elt F) := StableHlo.after hostOps3 (U6 m c)

/-! ## The regions' records -/

/-- Each region's proof data, from what it is entered with. -/
def dats : (p : Fin 3) → (c : Dev nD) → Dat τ (Elt F) Unit ℕ (UR sig nD τ) ℕ (cfgs p) c
  | ⟨0, _⟩, c => Region0.dat (U1 m) c
  | ⟨1, _⟩, c => Region1.dat (U3 m) c
  | ⟨2, _⟩, c => Region2.dat (U5 m) c

/-- The cells waits are measured at: every cell of a main core, all at one level. -/
abbrev L : GSem nD τ sig → Finset Unit := fun g => if g.1.2 = .tc then {()} else ∅
abbrev lv : GSem nD τ sig → Unit → ℕ := fun _ _ => 0

theorem L_off (g : GSem nD τ sig) (h : g.1.2 ≠ .tc) : L g = ∅ := if_neg h

/-- What rides beside the buffers: the core owes nothing. -/
abbrev rest (c : Dev nD) : sProp 𝕄 :=
  iprop((∃ Wd, owes (c : Thread nD τ) (0 : CellTallies nD τ sig Unit) Wd) ∗ BI.emp ∗ BI.emp)

theorem cut (p : Fin 3) : Pipeline.LevelCut (pcfgs (F := F)) adm () L lv p (fun _ : Dev nD => (0 : CellTallies nD τ sig Unit)) (fun _ => 0) where
  hι _ _ _ := by rw [L, if_pos rfl]; exact Finset.mem_singleton_self _
  hιb _ _ _ := le_refl _
  hD _ _ _ h := absurd h (Nat.lt_irrefl 0)

set_option backward.isDefEq.respectTransparency.types false in
def reg0 : RegionSeg (pcfgs (F := F)) adm (dats m) () defs₀ Variants.none L lv 0 :=
  RegionSeg.ofHeldIn (pcfgs (F := F)) adm (dats m) () defs₀ Variants.none L lv 0 (fun _ => 0) (Pipeline.ucRefs τ sig) (fun _ => BI.emp) (fun _ => BI.emp)
    launch0.toP rfl (fun c => (Region0.body_obligation (U1 m) c).loose) (fun _ _ => rfl) (fun _ => rfl)
    (fun c => (Region0.dat (U1 m) c).share_full fun _ => rfl) (Region0.enter (U1 m)) (Region0.leave (U1 m)) (fun _ => 0) (cut 0) (fun _ => BI.emp) (U1 m)
    (fun c w => Region0.A_eq (U1 m) c w)

set_option backward.isDefEq.respectTransparency.types false in
def reg1 : RegionSeg (pcfgs (F := F)) adm (dats m) () defs₀ Variants.none L lv 1 :=
  RegionSeg.ofHeldIn (pcfgs (F := F)) adm (dats m) () defs₀ Variants.none L lv 1 (fun _ => 0) (Pipeline.ucRefs τ sig) (fun _ => BI.emp) (fun _ => BI.emp)
    launch1.toP rfl (fun c => (Region1.body_obligation (U3 m) c).loose) (fun _ _ => rfl) (fun _ => rfl)
    (fun c => (Region1.dat (U3 m) c).share_full fun _ => rfl) (Region1.enter (U3 m)) (Region1.leave (U3 m)) (fun _ => 0) (cut 1) (fun _ => BI.emp) (U3 m)
    (fun c w => Region1.A_eq (U3 m) c w)

set_option backward.isDefEq.respectTransparency.types false in
def reg2 : RegionSeg (pcfgs (F := F)) adm (dats m) () defs₀ Variants.none L lv 2 :=
  RegionSeg.ofHeldIn (pcfgs (F := F)) adm (dats m) () defs₀ Variants.none L lv 2 (fun _ => 0) (Pipeline.ucRefs τ sig) (fun _ => BI.emp) (fun _ => BI.emp)
    launch2.toP rfl (fun c => (Region2.body_obligation (U5 m) c).loose) (fun _ _ => rfl) (fun _ => rfl)
    (fun c => (Region2.dat (U5 m) c).share_full fun _ => rfl) (Region2.enter (U5 m)) (Region2.leave (U5 m)) (fun _ => 0) (cut 2) (fun _ => BI.emp) (U5 m)
    (fun c w => Region2.A_eq (U5 m) c w)

/-! ## The segments -/

/-- A host stretch over the unscoped buffers. -/
abbrev host (ops : List (HloOp τ sig (Elt F))) (hsub : ops.Forall fun op => op.bufs ⊆ StableHlo.tcRefs τ sig) (hfresh : ops.Forall fun op => op.fresh = ∅)
    (V : Dev nD → Valuation τ sig (Elt F)) : HostSeg (Ix := Unit) (Name := ℕ) (U := UR sig nD τ) (Lvl := ℕ) (pcfgs (F := F)) defs₀ Variants.none L lv :=
  HostSeg.ofOps _ _ _ _ _ (Pipeline.ucRefs τ sig) ops (fun op h => Pipeline.sub_ucRefs op ((List.forall_iff_forall_mem.mp hsub) op h))
    (fun op h => (List.forall_iff_forall_mem.mp hfresh) op h) V rest

/-- The run, item by item. -/
abbrev segments : List (Seg (pcfgs (F := F)) adm (dats m) () defs₀ Variants.none L lv) :=
  [.host (host hostOps0 hostOps0_sub hostOps0_fresh (fun c b => m (c, b))), .region (reg0 m),
    .host (host hostOps1 hostOps1_sub hostOps1_fresh (U2 m)), .region (reg1 m),
    .host (host hostOps2 hostOps2_sub hostOps2_fresh (U4 m)), .region (reg2 m),
    .host (host hostOps3 hostOps3_sub hostOps3_fresh (U6 m))]

theorem arr_sub (p : Fin 3) : Pipeline.arrRefs (τ := τ) ((pcfgs (F := F)) p).spec ⊆ Pipeline.ucRefs τ sig := by
  match p with
  | ⟨0, _⟩ => exact (by decide : Pipeline.arrRefs (τ := τ) spec0 ⊆ Pipeline.ucRefs τ sig)
  | ⟨1, _⟩ => exact (by decide : Pipeline.arrRefs (τ := τ) spec1 ⊆ Pipeline.ucRefs τ sig)
  | ⟨2, _⟩ => exact (by decide : Pipeline.arrRefs (τ := τ) spec2 ⊆ Pipeline.ucRefs τ sig)

/-! Each region is entered from and left at the buffers named above. -/

set_option backward.isDefEq.respectTransparency.types false in
theorem into0 (c : Dev nD) : iprop(StableHlo.held (c : Thread nD τ) (Pipeline.ucRefs τ sig) (U1 m c) ∗ rest c) ⊢ (reg0 m).pre c := by
  unfold reg0
  have h := fun kit hK hbody howed hrec hshare hin hout b hcut hW => RegionSeg.ofHeldIn_pre (pcs := pcfgs (F := F)) (a := adm) (pdats := dats m) (ι := ()) (defs₀ := defs₀) (𝒱₀ := Variants.none) (L := L) (lv := lv)
    (p := 0) (D := fun _ => 0) (S := Pipeline.ucRefs τ sig) (X := fun _ => BI.emp) (Y := fun _ => BI.emp) (R := fun _ => BI.emp) (W := U1 m) (kit := kit) (hK := hK)
    (hbody := hbody) (howed := howed) (hrec := hrec) (hshare := hshare) (hin := hin) (hout := hout) (b := b) (hcut := hcut) (hW := hW) (arr_sub 0) c
  exact h _ _ _ _ _ _ _ _ _ _ _
set_option backward.isDefEq.respectTransparency.types false in
theorem from0 (c : Dev nD) : (reg0 m).post c ⊢ iprop(StableHlo.held (c : Thread nD τ) (Pipeline.ucRefs τ sig) (U2 m c) ∗ rest c) :=
  RegionSeg.ofHeldIn_post (arr_sub 0) c
set_option backward.isDefEq.respectTransparency.types false in
theorem into1 (c : Dev nD) : iprop(StableHlo.held (c : Thread nD τ) (Pipeline.ucRefs τ sig) (U3 m c) ∗ rest c) ⊢ (reg1 m).pre c := by
  unfold reg1
  have h := fun kit hK hbody howed hrec hshare hin hout b hcut hW => RegionSeg.ofHeldIn_pre (pcs := pcfgs (F := F)) (a := adm) (pdats := dats m) (ι := ()) (defs₀ := defs₀) (𝒱₀ := Variants.none) (L := L) (lv := lv)
    (p := 1) (D := fun _ => 0) (S := Pipeline.ucRefs τ sig) (X := fun _ => BI.emp) (Y := fun _ => BI.emp) (R := fun _ => BI.emp) (W := U3 m) (kit := kit) (hK := hK)
    (hbody := hbody) (howed := howed) (hrec := hrec) (hshare := hshare) (hin := hin) (hout := hout) (b := b) (hcut := hcut) (hW := hW) (arr_sub 1) c
  exact h _ _ _ _ _ _ _ _ _ _ _
set_option backward.isDefEq.respectTransparency.types false in
theorem from1 (c : Dev nD) : (reg1 m).post c ⊢ iprop(StableHlo.held (c : Thread nD τ) (Pipeline.ucRefs τ sig) (U4 m c) ∗ rest c) :=
  RegionSeg.ofHeldIn_post (arr_sub 1) c
set_option backward.isDefEq.respectTransparency.types false in
theorem into2 (c : Dev nD) : iprop(StableHlo.held (c : Thread nD τ) (Pipeline.ucRefs τ sig) (U5 m c) ∗ rest c) ⊢ (reg2 m).pre c := by
  unfold reg2
  have h := fun kit hK hbody howed hrec hshare hin hout b hcut hW => RegionSeg.ofHeldIn_pre (pcs := pcfgs (F := F)) (a := adm) (pdats := dats m) (ι := ()) (defs₀ := defs₀) (𝒱₀ := Variants.none) (L := L) (lv := lv)
    (p := 2) (D := fun _ => 0) (S := Pipeline.ucRefs τ sig) (X := fun _ => BI.emp) (Y := fun _ => BI.emp) (R := fun _ => BI.emp) (W := U5 m) (kit := kit) (hK := hK)
    (hbody := hbody) (howed := howed) (hrec := hrec) (hshare := hshare) (hin := hin) (hout := hout) (b := b) (hcut := hcut) (hW := hW) (arr_sub 2) c
  exact h _ _ _ _ _ _ _ _ _ _ _
set_option backward.isDefEq.respectTransparency.types false in
theorem from2 (c : Dev nD) : (reg2 m).post c ⊢ iprop(StableHlo.held (c : Thread nD τ) (Pipeline.ucRefs τ sig) (U6 m c) ∗ rest c) :=
  RegionSeg.ofHeldIn_post (arr_sub 2) c

/-- The launch element. -/
abbrev u₀ : UR sig nD τ := initOf (Pipeline.cells cfgs cellOf_inj) (Pipeline.launchToks cfgs cellOf_inj)

theorem launched_core (ρ : Dev nD → PrngReg) (c : Dev nD) :
    iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (fun b => m (c, b)) ∗ rest c) : sProp 𝕄) := by
  rw [← Pipeline.unscopedBufs_held (Ix := Unit) (Name := ℕ) (U := UR sig nD τ) (Lvl := ℕ) c (fun b => m (c, b))]
  iintro ⟨Hb, -, HO, -, -, -⟩
  isplitl [Hb]; · iexact Hb
  isplitl [HO]; · iexists _; iexact HO
  isplitl <;> iempintro

/-- What every core is launched with is what the first stretch starts from. -/
theorem launched (ρ : Dev nD → PrngReg) :
    (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
      ⊢ (bigSep Finset.univ fun c : Dev nD =>
          iprop(StableHlo.held (c : Thread nD τ) (Pipeline.ucRefs τ sig) (fun b => m (c, b)) ∗ rest c) : sProp 𝕄) := by
  exact bigSep_mono fun c _ => launched_core m ρ c

set_option backward.isDefEq.respectTransparency.types false in
/-- Every run from memory `m` terminates with every buffer at the contents named above and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = U7 m c b) ∧ r.2.sem = fun _ => 0) := by
  refine Pipeline.θ_run_regions_kit_sems (pcfgs (F := F)) adm (dats m) () cellOf_inj emb₁ defs₀ Variants.none L lv m ρ main (segments m)
    (fun c Q => by
      rewrite [main_chain c, Seg.run_eq_chain,
        show (segments m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (by simp only [segments, Seg.pipes_host, Seg.pipes_region, Seg.pipes_nil]; decide) (fun _ => 0) L_off (fun _ => BI.emp) u₀ ?_
    (T₀ := fun c => iprop(StableHlo.held (c : Thread nD τ) (Pipeline.ucRefs τ sig) (fun b => m (c, b)) ∗ rest c))
    (Tₙ := fun c => StableHlo.held (c : Thread nD τ) (Pipeline.ucRefs τ sig) (U7 m c))
    (hch := ⟨fun _ => .rfl, into0 m, from0 m, into1 m, from1 m, into2 m, from2 m,
      fun c => sep_mono .rfl (by iintro ⟨H, -, -⟩; iexact H)⟩)
    (hinit := ?_) (QY := fun c s => ∀ b ∈ Pipeline.ucRefs τ sig, s.mem (c, b) = U7 m c b)
    (hfin := fun c s' => ?_) (hQ := fun _ h hz => ⟨h, funext fun g => hz g (.inr (regions_no_unscoped g.2))⟩)
  · iintro Hu; imodintro
    isplitl [Hu]
    · iapply (show (ownU (u₀ : UR sig nD τ) : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine BIBase.Entails.trans ?_ fupd_intro
    refine (show iprop((bigSep Finset.univ fun c : Dev nD => _) ∗ levAts L lv) ⊢ _ from ?_)
    iintro ⟨H, -⟩
    iapply (launched m ρ)
    iexact H
  · unfold StableHlo.held
    iintro ⟨Hh, HSI⟩
    imodintro
    iapply (pointsTo_read_all (Pipeline.ucRefs τ sig) (fun b => ((c : Thread nD τ).1, b)) (U7 m c) s')
    isplitl [Hh] <;> iassumption

/-- An unscoped reference is among the buffers the run names. -/
theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

end Cert.Proof.Run
-- ==== Proof.Kept.lean ====
/-
  What the run leaves alone: a buffer no host operation writes and no region puts out keeps its contents, so both
  arguments end as they started.
-/
module

public import proofs.«01_k».proof.Proof.Run

@[expose] public section

set_option maxRecDepth 16384

noncomputable section

namespace Cert.Proof.Run

open Cert.KernelIdeal Cert.KernelIdeal.Gen
open Idealize.ShloMosaic Idealize.ShloMosaic.TcCoe
open Idealize.SL.Sem

variable {F : FTy → Type} [FloatOps F] [Named F]

variable (m : (ℓ : Loc nD τ sig) → Buf (Elt F) ℓ)

/-! ## One stretch at a time -/

theorem U1_of (c : Dev nD) (r : Ref sig .tc) (h : r ∉ hostOps0_W) : U1 m c r = m (c, r) :=
  StableHlo.after_of_writes_sub hostOps0 _ hostOps0_writes h
theorem U2_of (c : Dev nD) (r : Ref sig .tc) (h : ∀ w, Pipeline.arrRef spec0 w = r → (cfg0.win w).isOut = false) : U2 m c r = U1 m c r :=
  Pipeline.afterRegion_keeps (Region0.dat (U1 m) c) _ launch0.win.arr_inj (Region0.A_eq (U1 m) c) r h
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : ∀ w, Pipeline.arrRef spec1 w = r → (cfg1.win w).isOut = false) : U4 m c r = U3 m c r :=
  Pipeline.afterRegion_keeps (Region1.dat (U3 m) c) _ launch1.win.arr_inj (Region1.A_eq (U3 m) c) r h
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : ∀ w, Pipeline.arrRef spec2 w = r → (cfg2.win w).isOut = false) : U6 m c r = U5 m c r :=
  Pipeline.afterRegion_keeps (Region2.dat (U5 m) c) _ launch2.win.arr_inj (Region2.A_eq (U5 m) c) r h
theorem U7_of (c : Dev nD) (r : Ref sig .tc) (h : r ∉ hostOps3_W) : U7 m c r = U6 m c r :=
  StableHlo.after_of_writes_sub hostOps3 _ hostOps3_writes h

/-! ## The arguments -/

theorem U7_arg0 (c : Dev nD) : U7 m c main_arg0 = m (c, main_arg0) :=
  (U7_of m c main_arg0 (by decide)).trans <| (U6_of m c main_arg0 (by decide)).trans <| (U5_of m c main_arg0 (by decide)).trans <|
    (U4_of m c main_arg0 (by decide)).trans <| (U3_of m c main_arg0 (by decide)).trans <| (U2_of m c main_arg0 (by decide)).trans <|
    U1_of m c main_arg0 (by decide)
theorem U7_arg1 (c : Dev nD) : U7 m c main_arg1 = m (c, main_arg1) :=
  (U7_of m c main_arg1 (by decide)).trans <| (U6_of m c main_arg1 (by decide)).trans <| (U5_of m c main_arg1 (by decide)).trans <|
    (U4_of m c main_arg1 (by decide)).trans <| (U3_of m c main_arg1 (by decide)).trans <| (U2_of m c main_arg1 (by decide)).trans <|
    U1_of m c main_arg1 (by decide)

/-- The run, read at the two arguments and the two results. -/
theorem run_read (ρ : Dev nD → PrngReg) :
    θ_run defs (onTc (τ := τ) (main (F := F))) ⟨m, fun _ => 0, ρ⟩ (fun r =>
      (∀ c : Dev nD,
        r.2.mem ((c.tc : Thread nD τ).loc main_v19) = U7 m c main_v19
        ∧ r.2.mem ((c.tc : Thread nD τ).loc main_v20) = U7 m c main_v20
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run (defs (F := F)) _ _).mono (fun _ h =>
    ⟨fun c => ⟨h.1 c main_v19 (mem_uc main_v19 (by decide)), h.1 c main_v20 (mem_uc main_v20 (by decide)),
      (h.1 c main_arg0 (mem_uc main_arg0 (by decide))).trans (U7_arg0 m c),
      (h.1 c main_arg1 (mem_uc main_arg1 (by decide))).trans (U7_arg1 m c)⟩, h.2⟩) (run m ρ)

end Cert.Proof.Run
-- ==== Proof.Transfer.lean ====
/-
  The kernel as printed and its idealized text are one program where the named constant keeps its printed word, so the
  frame proved of the idealized text at every instance is the printed kernel's.
-/
module

public import proofs.«01_k».proof.Defs
public import proofs.«01_k».proof.Proof.Gen.Kernel.Regions
public import proofs.«01_k».proof.Proof.Gen.KernelIdeal.Regions

@[expose] public section

noncomputable section

namespace Cert.Proof
open Idealize.ShloMosaic Idealize.SL.Sem

/-- A named constant read as the word it stands beside. -/
instance : Named Bits where
  named _ _ {φ} w := FloatOps.ofBits φ w

set_option maxHeartbeats 4000000
set_option maxRecDepth 65536

/-! ## The same bodies, the same host program -/

theorem body0_eq : @Cert.Kernel.cc0_body Bits _ _ = @Cert.KernelIdeal.cc0_body Bits _ _ := by
  delta Cert.Kernel.cc0_body Cert.KernelIdeal.cc0_body; rfl
theorem body1_eq : @Cert.Kernel.cc1_body Bits _ _ = @Cert.KernelIdeal.cc1_body Bits _ _ := by
  delta Cert.Kernel.cc1_body Cert.KernelIdeal.cc1_body; rfl
theorem body2_eq : (@Cert.Kernel.cc2_body Bits _ _) = (@Cert.KernelIdeal.cc2_body Bits _ _ _) := by
  delta Cert.Kernel.cc2_body Cert.KernelIdeal.cc2_body; rfl
theorem main_eq : (Cert.Kernel.main (F := Bits)) = (Cert.KernelIdeal.main (F := Bits)) := by
  delta Cert.Kernel.main Cert.KernelIdeal.main; rfl
theorem defs₀_eq : (Cert.Kernel.defs₀ (F := Bits)) = (Cert.KernelIdeal.defs₀ (F := Bits)) := by
  delta Cert.Kernel.defs₀ Cert.KernelIdeal.defs₀
  rw [body0_eq, body1_eq, body2_eq]
  refine congrArg Defs.onTc (funext fun l => funext fun x => ?_)
  match l, x with
  | 0, (t, s) => rfl
  | 1, (t, s) => rfl
  | 2, (t, s) => rfl

/-- A frame of the idealized text at the bit instance is the printed kernel's frame. -/
theorem transfer (h : ∀ (m : (ℓ : Loc Cert.KernelIdeal.nD Cert.KernelIdeal.τ Cert.KernelIdeal.sig) → Buf (Elt Bits) ℓ) (ρ : Dev Cert.KernelIdeal.nD → PrngReg),
   θ_run Cert.KernelIdeal.defs (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) : Cert.quiescent_Kernel := by
  intro m ρ _
  have hd : Cert.Kernel.defs (F := Bits) = Cert.KernelIdeal.defs (F := Bits) := by
    delta Cert.Kernel.defs Cert.KernelIdeal.defs
    rw [defs₀_eq]; rfl
  rw [hd, main_eq]
  exact h m ρ

end Cert.Proof

end
-- ==== Proof.Shapes.lean ====
/-
  The shape facts the two predicates of the claims state, each by computation.
-/
module

public import proofs.«01_k».proof.Defs
public import Idealize.ShloMosaic.Lib.Decide

@[expose] public section

namespace Cert.Proof

open Idealize.ShloMosaic

instance factsPre : Cert.Pre_clear_of_clamp.Facts where
  h_S_ := by decide
  bcast_S_S100000x384 := by decide
  reducesTo_S100000x384_S_d0_1 := by decide
  reducesTo_S784x384_S784_d1 := by decide
  bcast_S784_S784x1_0 := by decide
  reducesTo_S100000x384_S100000_d1 := by decide
  bcast_S100000_S1x100000_1 := by decide
  bcast_S784x1_S784x100000_0_1 := by decide
  bcast_S1x100000_S784x100000_0_1 := by decide
  transposes_S100000x384_S384x100000_1_0 := by decide
  bcast_S_S784x100000 := by decide
  reducesTo_S784x100000_S784_d1 := by decide
  reducesTo_S784_S_d0 := by decide
  sliceFits_S784x384_S1x384 := by decide
  sliceFits_S784_S1 := by decide
  shapeCasts_S1_S_ := by decide
  sliceFits_S100000x384_S1x384 := by decide
  shapeCasts_S1x384_S384 := by decide
  bcast_S384_S1x384_1 := by decide
  reducesTo_S1x384_S1_d1 := by decide
  bcast_S1_S1x1_0 := by decide
  bcast_S1x1_S1x100000_0_1 := by decide
  bcast_S_S1x100000 := by decide
  reducesTo_S1x100000_S_d0_1 := by decide
  dot_S784x384_S384x100000_S784x100000_1_0_0_1_n_n_wf := by decide
  dot_S1x384_S384x100000_S1x100000_1_0_0_1_n_n_wf := by decide

instance factsOn : Cert.On_segm_only.Facts where
  bcast_S_S1x1x224x224 := by decide

end Cert.Proof
-- ==== Proof.Reference.lean ====
/-
  The reference as a function of its two arguments, value by value, and its run: the results it leaves are these.
-/
module

public import proofs.«01_k».proof.Defs
public import proofs.«01_k».proof.Proof.Gen.ReferenceIdeal
public import Idealize.ShloMosaic.Lib.Claim
public import Idealize.ShloMosaic.Lib.StableHlo.RunRead
public import Idealize.ShloMosaic.Lib.Pipeline.Frame

@[expose] public section

set_option maxRecDepth 16384

noncomputable section

namespace Cert.Proof.Ref

open Cert.ReferenceIdeal Cert.ReferenceIdeal.Facts₀
open Idealize.ShloMosaic Idealize.SL.Sem

variable {F : FTy → Type} [FloatOps F]

/-! ## Distances from every patch to every memory row -/

/-- The squared distances, expanded: norms less twice the products. -/
def squares (a : FVec F S784x384 .f32) (b : FVec F S100000x384 .f32) : FVec F S784x100000 .f32 :=
  subf
    (addf
      (broadcastInDim S784x100000 ![0, 1] bcast_S784x1_S784x100000_0_1
        (broadcastInDim S784x1 ![0] bcast_S784_S784x1_0
          (Host.reduceAdd (mulf a a) (constant S_ .f32 0x00000000#32) reducesTo_S784x384_S784_d1 h_S_)))
      (broadcastInDim S784x100000 ![0, 1] bcast_S1x100000_S784x100000_0_1
        (broadcastInDim S1x100000 ![1] bcast_S100000_S1x100000_1
          (Host.reduceAdd (mulf b b) (constant S_ .f32 0x00000000#32) reducesTo_S100000x384_S100000_d1 h_S_))))
    (mulf (broadcastInDim S784x100000 ![] bcast_S_S784x100000 (constant S_ .f32 0x40000000#32))
      (Host.dotGeneral dot_S784x384_S384x100000_S784x100000_1_0_0_1_n_n none a
        (transpose S384x100000 [1, 0] b transposes_S100000x384_S384x100000_1_0)))

/-- The distances, the squares held away from zero. -/
def distances (a : FVec F S784x384 .f32) (b : FVec F S100000x384 .f32) : FVec F S784x100000 .f32 :=
  Host.sqrt (maximumf (squares a b) (broadcastInDim S784x100000 ![] bcast_S_S784x100000 (constant S_ .f32 0x2B8CBCCC#32)))

/-- Each patch's least distance. -/
def nearest (d : FVec F S784x100000 .f32) : FVec F S784 .f32 :=
  Host.reduce FloatOps.minimumf d (constant S_ .f32 0x7F800000#32) reducesTo_S784x100000_S784_d1 h_S_

/-- The memory row that has it. -/
def nearestRow (d : FVec F S784x100000 .f32) : IVec S784 32 := fun j =>
  (Host.argReduce reducer_argmin_f32_i32 d (iotaInDim S784x100000 32 1) (constant S_ .f32 0x7F800000#32) (constantI S_ 32 0#32)
    reducesTo_S784x100000_S784_d1 h_S_ j).2

/-- The patch farthest from the memory. -/
def worst (n : FVec F S784 .f32) : IVec S_ 32 := fun j =>
  (Host.argReduce reducer_argmax_f32_i32 n (iotaInDim S784 32 0) (constant S_ .f32 0xFF800000#32) (constantI S_ 32 0#32)
    reducesTo_S784_S_d0 h_S_ j).2

/-- Its distance. -/
def top (n : FVec F S784 .f32) : FVec F S_ .f32 :=
  Host.reduce FloatOps.maximumf n (constant S_ .f32 0xFF800000#32) reducesTo_S784_S_d0 h_S_

/-! ## Indexing: a negative index counts from the end -/

def wrapped (x n : IVec S_ 32) : IVec S_ 32 := select (cmpi .slt x (constantI S_ 32 0#32)) (addi x n) x

/-- The column a row slice starts at. -/
def column0 : IVec S_ 32 :=
  select (cmpi .slt (constantI S_ 32 0#32) (constantI S_ 32 0#32)) (addi (constantI S_ 32 0#32) (constantI S_ 32 384#32)) (constantI S_ 32 0#32)

/-- The memory row nearest the patch `s`. -/
def starRow (k : IVec S784 32) (s : IVec S_ 32) : IVec S_ 32 :=
  shapeCast S_ (Host.dynamicSlice S1 k (fun i => ((![wrapped s (constantI S_ 32 784#32)] : Fin 1 → IVec S_ 32) i (Shape.Idx.first h_S_)).toInt) sliceFits_S784_S1) shapeCasts_S1_S_

/-- Row `j` of the memory. -/
def memoryRow (b : FVec F S100000x384 .f32) (j : IVec S_ 32) : FVec F S1x384 .f32 :=
  broadcastInDim S1x384 ![1] bcast_S384_S1x384_1
    (shapeCast S384 (Host.dynamicSlice S1x384 b
      (fun i => ((![wrapped j (constantI S_ 32 100000#32), column0] : Fin 2 → IVec S_ 32) i (Shape.Idx.first h_S_)).toInt) sliceFits_S100000x384_S1x384) shapeCasts_S1x384_S384)

/-- Row `j` of the patches. -/
def patchRow (a : FVec F S784x384 .f32) (j : IVec S_ 32) : FVec F S1x384 .f32 :=
  broadcastInDim S1x384 ![1] bcast_S384_S1x384_1
    (shapeCast S384 (Host.dynamicSlice S1x384 a
      (fun i => ((![wrapped j (constantI S_ 32 784#32), column0] : Fin 2 → IVec S_ 32) i (Shape.Idx.first h_S_)).toInt) sliceFits_S784x384_S1x384) shapeCasts_S1x384_S384)

/-! ## The neighbours of the nearest row -/

/-- The squared distances of one row to every memory row. -/
def rowSquares (q : FVec F S1x384 .f32) (b : FVec F S100000x384 .f32) : FVec F S1x100000 .f32 :=
  subf
    (addf
      (broadcastInDim S1x100000 ![0, 1] bcast_S1x1_S1x100000_0_1
        (broadcastInDim S1x1 ![0] bcast_S1_S1x1_0
          (Host.reduceAdd (mulf q q) (constant S_ .f32 0x00000000#32) reducesTo_S1x384_S1_d1 h_S_)))
      (broadcastInDim S1x100000 ![1] bcast_S100000_S1x100000_1
        (Host.reduceAdd (mulf b b) (constant S_ .f32 0x00000000#32) reducesTo_S100000x384_S100000_d1 h_S_)))
    (mulf (broadcastInDim S1x100000 ![] bcast_S_S1x100000 (constant S_ .f32 0x40000000#32))
      (Host.dotGeneral dot_S1x384_S384x100000_S1x100000_1_0_0_1_n_n none q
        (transpose S384x100000 [1, 0] b transposes_S100000x384_S384x100000_1_0)))

def rowDistances (q : FVec F S1x384 .f32) (b : FVec F S100000x384 .f32) : FVec F S1x100000 .f32 :=
  Host.sqrt (maximumf (rowSquares q b) (broadcastInDim S1x100000 ![] bcast_S_S1x100000 (constant S_ .f32 0x2B8CBCCC#32)))

/-- The three memory rows nearest the query, in order. -/
def three (d : FVec F S1x100000 .f32) : IVec S1x3 32 :=
  (Host.topK S1x3 1 (FloatOps.cmpfTotal .gt) (Host.negf d) sliceFits_S1x100000_S1x3).2

/-- The second and the third of them. -/
def two (t : IVec S1x3 32) : IVec S2 32 := shapeCast S2 (extractStridedSlice S1x2 ![0, 1] t slices_S1x3_S1x2_0_1) shapeCasts_S1x2_S2

/-- The rows they name. -/
def neighbours (b : FVec F S100000x384 .f32) (i : IVec S2 32) : FVec F S2x384 .f32 :=
  Host.gather gather_S100000x384_S2x1_S2x384_1_0_n_n_0_1_1384 b
    (broadcastInDim S2x1 ![0] bcast_S2_S2x1_0
      (select (cmpi .slt i (broadcastInDim S2 ![] bcast_S_S2 (constantI S_ 32 0#32)))
        (addi i (broadcastInDim S2 ![] bcast_S_S2 (constantI S_ 32 100000#32))) i))

/-! ## The score -/

/-- The distances of a patch to the neighbours. -/
def lengths (p : FVec F S1x384 .f32) (n : FVec F S2x384 .f32) : FVec F S2 .f32 :=
  Host.sqrt (Host.reduceAdd
    (mulf (subf (broadcastInDim S2x384 ![0, 1] bcast_S1x384_S2x384_0_1 p) n) (subf (broadcastInDim S2x384 ![0, 1] bcast_S1x384_S2x384_0_1 p) n))
    (constant S_ .f32 0x00000000#32) reducesTo_S2x384_S2_d1 h_S_)

def root : FVec F S_ .f32 := Host.sqrt (constant S_ .f32 0x43C00000#32)

/-- One less the quotient of exponentials, times the top distance. -/
def weigh (s : FVec F S_ .f32) (l : FVec F S2 .f32) : FVec F S_ .f32 :=
  mulf (subf (constant S_ .f32 0x3F800000#32)
    (Host.divf (Host.exp (Host.divf s root))
      (Host.reduceAdd (Host.exp (Host.divf l (broadcastInDim S2 ![] bcast_S_S2 root))) (constant S_ .f32 0x00000000#32) reducesTo_S2_S_d0 h_S_))) s

/-- The nearest memory row of the worst patch. -/
def star (b : FVec F S100000x384 .f32) (d : FVec F S784x100000 .f32) : FVec F S1x384 .f32 :=
  memoryRow b (starRow (nearestRow d) (worst (nearest d)))

def score (a : FVec F S784x384 .f32) (b : FVec F S100000x384 .f32) : FVec F S_ .f32 :=
  weigh (top (nearest (distances a b)))
    (lengths (patchRow a (worst (nearest (distances a b))))
      (neighbours b (two (three (rowDistances (star b (distances a b)) b)))))

/-! ## The segmentation map -/

/-- The interpolation weights: what a map position takes of a grid position. -/
def weights : FVec F S224x28 .f32 :=
  maximumf (broadcastInDim S224x28 ![] bcast_S_S224x28 (constant S_ .f32 0x00000000#32))
    (subf (broadcastInDim S224x28 ![] bcast_S_S224x28 (constant S_ .f32 0x3F800000#32))
      (Host.absf
        (subf
          (broadcastInDim S224x28 ![0, 1] bcast_S224x1_S224x28_0_1
            (broadcastInDim S224x1 ![0] bcast_S224_S224x1_0
              (minimumf (broadcastInDim S224 ![] bcast_S_S224 (id (constant S_ .f32 0x41D80000#32)))
                (maximumf (broadcastInDim S224 ![] bcast_S_S224 (id (constant S_ .f32 0x00000000#32)))
                  (subf
                    (mulf
                      (addf (sitofp .f32 (iotaInDim S224 32 0)) (broadcastInDim S224 ![] bcast_S_S224 (constant S_ .f32 0x3F000000#32)))
                      (broadcastInDim S224 ![] bcast_S_S224 (constant S_ .f32 0x3E000000#32)))
                    (broadcastInDim S224 ![] bcast_S_S224 (constant S_ .f32 0x3F000000#32)))))))
          (broadcastInDim S224x28 ![0, 1] bcast_S1x28_S224x28_0_1
            (broadcastInDim S1x28 ![1] bcast_S28_S1x28_1 (sitofp .f32 (iotaInDim S28 32 0)))))))

/-- The least distances as a grid, interpolated along both axes. -/
def spread (n : FVec F S784 .f32) : FVec F S1x1x224x224 .f32 :=
  Host.dotGeneral dot_S1x1x28x224_S224x28_S1x1x224x224_2_1_013_0_n_n none
    (Host.dotGeneral dot_S1x1x28x28_S224x28_S1x1x28x224_2_1_013_0_n_n none (shapeCast S1x1x28x28 n shapeCasts_S784_S1x1x28x28) weights) weights

def segm (a : FVec F S784x384 .f32) (b : FVec F S100000x384 .f32) : FVec F S1x1x224x224 .f32 := spread (nearest (distances a b))

/-! ## The run -/

/-- A line of operations read as its first `n`, then the rest over what those leave. -/
theorem cut (n : ℕ) {ops : List (HloOp τ sig (Elt F))} {V : Valuation τ sig (Elt F)} {P : ∀ b : Ref sig .tc, (Proc.devRef (τ := τ) .tc b).ty.Contents (Elt F)}
    (h : ∀ b, P b = StableHlo.after ops V (Proc.devRef .tc b)) :
    ∃ W, W = StableHlo.after (ops.take n) V ∧ ∀ b, P b = StableHlo.after (ops.drop n) W (Proc.devRef .tc b) :=
  ⟨_, rfl, fun b => by rw [h b, ← StableHlo.after_append, List.take_append_drop]⟩

set_option maxHeartbeats 0 in
/-- The reference terminates with its results at these values, its arguments kept and no counter raised. -/
theorem run (m : (ℓ : Loc nD τ sig) → Buf (Elt F) ℓ) (g : Dev nD → PrngReg) :
    θ_run defs (onTc (τ := τ) (main (F := F))) ⟨m, fun _ => 0, g⟩ (fun r =>
      (∀ c : Dev nD,
        r.2.mem ((c.tc : Thread nD τ).loc main_v82) = score (m ((c.tc : Thread nD τ).loc main_arg0)) (m ((c.tc : Thread nD τ).loc main_arg1))
        ∧ r.2.mem ((c.tc : Thread nD τ).loc main_v104) = segm (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine θ_run_mono (StableHlo.run_hlo _ _ (by hlo_seq) (by decide) (by decide) (by simp)
      (by intro _ h; (repeat (cases h with | head => rfl | tail _ h => ?_)); exact nomatch h) _ _) ?_
  intro r h
  refine ⟨fun c => ?_, sem_eq_zero_of_no_sems (by decide) _⟩
  have h := h c
  simp only [List.cons_append, List.nil_append] at h
  obtain ⟨W1, e1, h1⟩ := cut 23 h
  clear h
  simp only [List.take_succ_cons, List.take_zero] at e1
  simp only [List.drop_succ_cons, List.drop_zero] at h1
  have a0 : W1 (Proc.devRef .tc main_arg0) = m ((c.tc : Thread nD τ).loc main_arg0) := by
    rw [e1]; after_reads_simp
  have b1 : W1 (Proc.devRef .tc main_arg1) = (m ((c.tc : Thread nD τ).loc main_arg1)) := by
    rw [e1]; after_reads_simp
  have d1 : W1 (Proc.devRef .tc main_v16) = distances (m ((c.tc : Thread nD τ).loc main_arg0)) (m ((c.tc : Thread nD τ).loc main_arg1)) := by
    rw [e1]; after_reads_simp; rfl
  have n1 : W1 (Proc.devRef .tc main_v17) = nearest (W1 (Proc.devRef .tc main_v16)) := by
    rw [d1, e1]; after_reads_simp; rfl
  obtain ⟨W2, e2, h2⟩ := cut 12 h1
  clear h1
  simp only [List.take_succ_cons, List.take_zero] at e2
  simp only [List.drop_succ_cons, List.drop_zero] at h2
  have a2 : W2 (Proc.devRef .tc main_arg0) = W1 (Proc.devRef .tc main_arg0) := by
    rw [e2]; after_reads_simp
  have b2 : W2 (Proc.devRef .tc main_arg1) = W1 (Proc.devRef .tc main_arg1) := by
    rw [e2]; after_reads_simp
  have n2 : W2 (Proc.devRef .tc main_v17) = W1 (Proc.devRef .tc main_v17) := by
    rw [e2]; after_reads_simp
  have k2 : W2 (Proc.devRef .tc main_v18) = nearestRow (W1 (Proc.devRef .tc main_v16)) := by
    rw [e2]; after_reads_simp; rfl
  have j2 : W2 (Proc.devRef .tc main_v19) = worst (W1 (Proc.devRef .tc main_v17)) := by
    rw [e2]; after_reads_simp; rfl
  have t2 : W2 (Proc.devRef .tc main_v20) = top (W1 (Proc.devRef .tc main_v17)) := by
    rw [e2]; after_reads_simp; rfl
  obtain ⟨W3, e3, h3⟩ := cut 7 h2
  clear h2
  simp only [List.take_succ_cons, List.take_zero] at e3
  simp only [List.drop_succ_cons, List.drop_zero] at h3
  have a3 : W3 (Proc.devRef .tc main_arg0) = W2 (Proc.devRef .tc main_arg0) := by
    rw [e3]; after_reads_simp
  have b3 : W3 (Proc.devRef .tc main_arg1) = W2 (Proc.devRef .tc main_arg1) := by
    rw [e3]; after_reads_simp
  have n3 : W3 (Proc.devRef .tc main_v17) = W2 (Proc.devRef .tc main_v17) := by
    rw [e3]; after_reads_simp
  have j3 : W3 (Proc.devRef .tc main_v19) = W2 (Proc.devRef .tc main_v19) := by
    rw [e3]; after_reads_simp
  have t3 : W3 (Proc.devRef .tc main_v20) = W2 (Proc.devRef .tc main_v20) := by
    rw [e3]; after_reads_simp
  have s3 : W3 (Proc.devRef .tc main_v25) = starRow (W2 (Proc.devRef .tc main_v18)) (W2 (Proc.devRef .tc main_v19)) := by
    rw [e3]; after_reads_simp [StableHlo.unaryIndexed_result_read, StableHlo.indexContents_cons, StableHlo.indexContents_empty]; rfl
  obtain ⟨W4, e4, h4⟩ := cut 16 h3
  clear h3
  simp only [List.take_succ_cons, List.take_zero] at e4
  simp only [List.drop_succ_cons, List.drop_zero] at h4
  have a4 : W4 (Proc.devRef .tc main_arg0) = W3 (Proc.devRef .tc main_arg0) := by
    rw [e4]; after_reads_simp
  have b4 : W4 (Proc.devRef .tc main_arg1) = W3 (Proc.devRef .tc main_arg1) := by
    rw [e4]; after_reads_simp
  have n4 : W4 (Proc.devRef .tc main_v17) = W3 (Proc.devRef .tc main_v17) := by
    rw [e4]; after_reads_simp
  have j4 : W4 (Proc.devRef .tc main_v19) = W3 (Proc.devRef .tc main_v19) := by
    rw [e4]; after_reads_simp
  have t4 : W4 (Proc.devRef .tc main_v20) = W3 (Proc.devRef .tc main_v20) := by
    rw [e4]; after_reads_simp
  have q4 : W4 (Proc.devRef .tc main_v34) = memoryRow (W3 (Proc.devRef .tc main_arg1)) (W3 (Proc.devRef .tc main_v25)) := by
    rw [e4]; after_reads_simp [StableHlo.unaryIndexed_result_read, StableHlo.indexContents_cons, StableHlo.indexContents_empty]; rfl
  obtain ⟨W5, e5, h5⟩ := cut 20 h4
  clear h4
  simp only [List.take_succ_cons, List.take_zero] at e5
  simp only [List.drop_succ_cons, List.drop_zero] at h5
  have a5 : W5 (Proc.devRef .tc main_arg0) = W4 (Proc.devRef .tc main_arg0) := by
    rw [e5]; after_reads_simp
  have b5 : W5 (Proc.devRef .tc main_arg1) = W4 (Proc.devRef .tc main_arg1) := by
    rw [e5]; after_reads_simp
  have n5 : W5 (Proc.devRef .tc main_v17) = W4 (Proc.devRef .tc main_v17) := by
    rw [e5]; after_reads_simp
  have j5 : W5 (Proc.devRef .tc main_v19) = W4 (Proc.devRef .tc main_v19) := by
    rw [e5]; after_reads_simp
  have t5 : W5 (Proc.devRef .tc main_v20) = W4 (Proc.devRef .tc main_v20) := by
    rw [e5]; after_reads_simp
  have r5 : W5 (Proc.devRef .tc main_v50) = rowDistances (W4 (Proc.devRef .tc main_v34)) (W4 (Proc.devRef .tc main_arg1)) := by
    rw [e5]; after_reads_simp; rfl
  obtain ⟨W6, e6, h6⟩ := cut 3 h5
  clear h5
  simp only [List.take_succ_cons, List.take_zero] at e6
  simp only [List.drop_succ_cons, List.drop_zero] at h6
  have a6 : W6 (Proc.devRef .tc main_arg0) = W5 (Proc.devRef .tc main_arg0) := by
    rw [e6]; after_reads_simp
  have b6 : W6 (Proc.devRef .tc main_arg1) = W5 (Proc.devRef .tc main_arg1) := by
    rw [e6]; after_reads_simp
  have n6 : W6 (Proc.devRef .tc main_v17) = W5 (Proc.devRef .tc main_v17) := by
    rw [e6]; after_reads_simp
  have j6 : W6 (Proc.devRef .tc main_v19) = W5 (Proc.devRef .tc main_v19) := by
    rw [e6]; after_reads_simp
  have t6 : W6 (Proc.devRef .tc main_v20) = W5 (Proc.devRef .tc main_v20) := by
    rw [e6]; after_reads_simp
  have i6 : W6 (Proc.devRef .tc main_indices) = three (W5 (Proc.devRef .tc main_v50)) := by
    rw [e6]; after_reads_simp; rfl
  obtain ⟨W7, e7, h7⟩ := cut 11 h6
  clear h6
  simp only [List.take_succ_cons, List.take_zero] at e7
  simp only [List.drop_succ_cons, List.drop_zero] at h7
  have a7 : W7 (Proc.devRef .tc main_arg0) = W6 (Proc.devRef .tc main_arg0) := by
    rw [e7]; after_reads_simp
  have b7 : W7 (Proc.devRef .tc main_arg1) = W6 (Proc.devRef .tc main_arg1) := by
    rw [e7]; after_reads_simp
  have n7 : W7 (Proc.devRef .tc main_v17) = W6 (Proc.devRef .tc main_v17) := by
    rw [e7]; after_reads_simp
  have j7 : W7 (Proc.devRef .tc main_v19) = W6 (Proc.devRef .tc main_v19) := by
    rw [e7]; after_reads_simp
  have t7 : W7 (Proc.devRef .tc main_v20) = W6 (Proc.devRef .tc main_v20) := by
    rw [e7]; after_reads_simp
  have g7 : W7 (Proc.devRef .tc main_v60) = neighbours (W6 (Proc.devRef .tc main_arg1)) (two (W6 (Proc.devRef .tc main_indices))) := by
    rw [e7]; after_reads_simp; rfl
  obtain ⟨W8, e8, h8⟩ := cut 16 h7
  clear h7
  simp only [List.take_succ_cons, List.take_zero] at e8
  simp only [List.drop_succ_cons, List.drop_zero] at h8
  have a8 : W8 (Proc.devRef .tc main_arg0) = W7 (Proc.devRef .tc main_arg0) := by
    rw [e8]; after_reads_simp
  have b8 : W8 (Proc.devRef .tc main_arg1) = W7 (Proc.devRef .tc main_arg1) := by
    rw [e8]; after_reads_simp
  have n8 : W8 (Proc.devRef .tc main_v17) = W7 (Proc.devRef .tc main_v17) := by
    rw [e8]; after_reads_simp
  have j8 : W8 (Proc.devRef .tc main_v19) = W7 (Proc.devRef .tc main_v19) := by
    rw [e8]; after_reads_simp
  have t8 : W8 (Proc.devRef .tc main_v20) = W7 (Proc.devRef .tc main_v20) := by
    rw [e8]; after_reads_simp
  have g8 : W8 (Proc.devRef .tc main_v60) = W7 (Proc.devRef .tc main_v60) := by
    rw [e8]; after_reads_simp
  have p8 : W8 (Proc.devRef .tc main_v69) = patchRow (W7 (Proc.devRef .tc main_arg0)) (W7 (Proc.devRef .tc main_v19)) := by
    rw [e8]; after_reads_simp [StableHlo.unaryIndexed_result_read, StableHlo.indexContents_cons, StableHlo.indexContents_empty]; rfl
  refine ⟨?_, ?_, ?_, ?_⟩
  · refine (h8 main_v82).trans ?_
    refine Eq.trans (b := weigh (W8 (Proc.devRef .tc main_v20)) (lengths (W8 (Proc.devRef .tc main_v69)) (W8 (Proc.devRef .tc main_v60)))) ?_ ?_
    · after_reads_simp; rfl
    rw [t8, t7, t6, t5, t4, t3, t2, p8, a7, a6, a5, a4, a3, a2, a0, j7, j6, j5, j4, j3, j2, g8, g7, b6, b5, b4, b3, b2, b1, i6, r5, q4, b4, b3, b2, b1, s3, k2, j2, n1, d1]
    rfl
  · refine (h8 main_v104).trans ?_
    refine Eq.trans (b := spread (W8 (Proc.devRef .tc main_v17))) ?_ ?_
    · after_reads_simp; rfl
    rw [n8, n7, n6, n5, n4, n3, n2, n1, d1]
    rfl
  · refine (h8 main_arg0).trans ?_
    after_reads_simp
    rw [a8, a7, a6, a5, a4, a3, a2, a0]
  · refine (h8 main_arg1).trans ?_
    after_reads_simp
    rw [b8, b7, b6, b5, b4, b3, b2, b1]

end Cert.Proof.Ref

end
-- ==== Proof.Frames.lean ====
/-
  The frames of all three programs and the one rewriting of the printed kernel.
-/
module

public import proofs.«01_k».proof.Proof.Kept
public import proofs.«01_k».proof.Proof.Transfer
public import proofs.«01_k».proof.Proof.Shapes
public import proofs.«01_k».proof.Proof.Reference
public import Idealize.ShloMosaic.Lib.Claim

@[expose] public section

set_option maxRecDepth 16384

namespace Cert.Proof

open Idealize.ShloMosaic Idealize.SL.Sem

theorem frame_KernelIdeal : Cert.quiescent_KernelIdeal := fun m ρ _ =>
  (θ_run Cert.KernelIdeal.defs _ _).mono (fun _ h => ⟨fun c => (h.1 c).2.2, h.2⟩) (Run.run_read (F := Ideal) m ρ)

theorem frame_Kernel : Cert.quiescent_Kernel := transfer fun m ρ =>
  (θ_run Cert.KernelIdeal.defs _ _).mono (fun _ h => ⟨fun c => (h.1 c).2.2, h.2⟩) (Run.run_read (F := Bits) m ρ)

theorem frame_ReferenceIdeal : Cert.quiescent_ReferenceIdeal := fun m ρ _ =>
  (θ_run Cert.ReferenceIdeal.defs _ _).mono (fun _ h => ⟨fun c => (h.1 c).2.2, h.2⟩) (Ref.run (F := Ideal) m ρ)

theorem frame_KernelIdeal_pre : Cert.quiescent_KernelIdeal_pre_clear_of_clamp := fun m ρ _ => frame_KernelIdeal m ρ trivial
theorem frame_ReferenceIdeal_pre : Cert.quiescent_ReferenceIdeal_pre_clear_of_clamp := fun m ρ _ => frame_ReferenceIdeal m ρ trivial

/-- The one named constant: the square root of 384. -/
theorem preserves : Cert.preserves_Kernel_KernelIdeal :=
  IdealRules.named_const.statement Cert.KernelIdeal.κ "nrm" .f32 0x419CC471#32 ((Real.sqrt 384 : ℝ) : EReal) rfl

end Cert.Proof
-- ==== Proof.Near.lean ====
/-
  The nearest-neighbour region at the extended reals: what its running minimum holds after some blocks, and that the
  distances it leaves are the reference's least distances.
-/
module

public import proofs.«01_k».proof.Proof.Region0
public import proofs.«01_k».proof.Proof.Gen.ReferenceIdeal
public import Idealize.ShloMosaic.Lib.ValueIdx
public import Idealize.ShloMosaic.Lib.Pointwise
public import Idealize.ShloMosaic.Lib.IdealHost

@[expose] public section

set_option maxRecDepth 16384

noncomputable section

namespace Cert.Proof.Near

open Cert.KernelIdeal Cert.KernelIdeal.Gen
open Idealize.ShloMosaic Idealize.ShloMosaic.TcCoe

/-! ## Norms, products and the part of a squared distance that varies with the row -/

section Parts
variable {n m : ℕ}

/-- The squared norm of row `k`. -/
def norm2 (x : FVec Ideal ⟨2, ![n, 384]⟩ .f32) (k : Fin n) : EReal := ∑ c : Fin 384, x (ix2 k c) * x (ix2 k c)

/-- The product of row `r` of `x` with row `k` of `y`. -/
def inner (x : FVec Ideal ⟨2, ![n, 384]⟩ .f32) (y : FVec Ideal ⟨2, ![m, 384]⟩ .f32) (r : Fin n) (k : Fin m) : EReal :=
  ∑ c : Fin 384, x (ix2 r c) * y (ix2 k c)

/-- The squared distance between the two rows, less the squared norm of the first. -/
def gap (x : FVec Ideal ⟨2, ![n, 384]⟩ .f32) (y : FVec Ideal ⟨2, ![m, 384]⟩ .f32) (r : Fin n) (k : Fin m) : EReal :=
  norm2 y k - Ideal.ofBits .f32 0x40000000#32 * inner x y r k

end Parts

theorem inf_word : Ideal.ofBits .f32 0x7F800000#32 = ⊤ := by simp [Ideal.ofBits, Ideal.ieee]

/-! ## One block -/

section Block
variable (x0 : Vec Ideal S784x384 .f32) (x1 : Vec Ideal S2000x384 .f32) (s : Vec Ideal S784x1 .f32) (r : Fin 784)

theorem gap_block (k : Fin 2000) : k0_pay7 x0 x1 (ix2 r k) = gap x0 x1 r k := by
  unfold k0_pay7; pointwise; rfl

theorem min_block : k0_pay8 x0 x1 (ix2 r 0) = (Finset.univ : Finset (Fin 2000)).fold min ⊤ (gap x0 x1 r) := by
  unfold k0_pay8; pointwise
  rw [inf_word]
  refine congrArg (fun f => Finset.fold min ⊤ f Finset.univ) (funext fun k => ?_)
  exact gap_block x0 x1 r k

theorem next_min : k0_pay10 x0 x1 s (ix2 r 0) = min (s (ix2 r 0)) (k0_pay8 x0 x1 (ix2 r 0)) := by
  unfold k0_pay10 k0_pay9; pointwise
  split
  · next h => exact (min_eq_right h.le).symm
  · next h => exact (min_eq_left (not_lt.mp h)).symm

theorem dist_at : k0_pay2 x0 s (ix2 r 0) = Ideal.sqrt (max (s (ix2 r 0) + norm2 x0 r) (Ideal.ofBits .f32 0x2B8CBCCC#32)) := by
  unfold k0_pay2; pointwise; rfl

theorem init_min : k0_pay5 (F := Ideal) (ix2 r 0) = ⊤ := by
  unfold k0_pay5; pointwise; exact inf_word

end Block

/-! ## All the blocks -/

section Blocks
variable (W : Dev nD → Valuation τ sig (Elt Ideal)) (c : Dev nD)

theorem index_patches : ∀ t : Fin cfg0.N, win0_0.index t = ![0, 0] := (by decide +kernel : ∀ t : Fin grid0.N, _)
theorem index_rows : ∀ t : Fin cfg0.N, win0_1.index t = ![t.val, 0] := (by decide +kernel : ∀ t : Fin grid0.N, _)

theorem patches_at (t : Fin cfg0.N) (r : Fin 784) (k : Fin 384) :
    Region0.patches W c t (ix2 r k) = W c (Proc.devRef .tc main_arg0) (ix2 r k) := by
  unfold Region0.patches Region0.blockAt
  blk_simp
  refine congrArg (W c (Proc.devRef .tc main_arg0)) ?_
  blk_ext [index_patches]

theorem patches_eq (t : Fin cfg0.N) : Region0.patches W c t = W c (Proc.devRef .tc main_arg0) := by
  funext i
  rw [eq_ix2 i]
  exact patches_at W c t (i 0) (i 1)

theorem rows_at (t : Fin cfg0.N) (j : Fin 2000) (k : Fin 384) (h : 2000 * t.val + j.val < 100000) :
    Region0.rows W c t (ix2 j k) = W c (Proc.devRef .tc main_arg1) (ix2 (⟨2000 * t.val + j.val, h⟩ : Fin 100000) k) := by
  unfold Region0.rows Region0.blockAt
  blk_simp
  refine congrArg (W c (Proc.devRef .tc main_arg1)) ?_
  blk_ext [index_rows]

theorem gap_rows (t : Fin cfg0.N) (r : Fin 784) (j : Fin 2000) (h : 2000 * t.val + j.val < 100000) :
    gap (Region0.patches W c t) (Region0.rows W c t) r j
      = gap (n := 784) (m := 100000) (W c (Proc.devRef .tc main_arg0)) (W c (Proc.devRef .tc main_arg1)) r ⟨2000 * t.val + j.val, h⟩ := by
  unfold gap norm2 inner
  simp only [patches_at, rows_at W c t j _ h]

/-- After `n` blocks the running minimum is the least gap over the rows seen. -/
theorem state_min (r : Fin 784) (n : ℕ) (hn : n ≤ 50) (x : EReal) :
    x ≤ (Region0.state W c n).1 (ix2 r 0)
      ↔ ∀ k : Fin 100000, k.val < 2000 * n → x ≤ gap (n := 784) (m := 100000) (W c (Proc.devRef .tc main_arg0)) (W c (Proc.devRef .tc main_arg1)) r k := by
  induction n with
  | zero =>
    rw [show (Region0.state W c 0).1 (ix2 r 0) = ⊤ from init_min r]
    simp
  | succ n ih =>
    have hN : n < cfg0.N := Nat.lt_of_lt_of_eq (by omega : n < 50) N_0.symm
    have e := Region0.state_succ W c ⟨n, hN⟩
    dsimp only at e
    rw [e]
    show x ≤ (k0_pay10 (F := Ideal) _ _ _ (ix2 r 0) : EReal) ↔ _
    rw [next_min, le_min_iff, ih (by omega), min_block, Finset.le_fold_min]
    constructor
    · rintro ⟨h1, -, h2⟩ k hk
      by_cases g : k.val < 2000 * n
      · exact h1 k g
      · have q := h2 ⟨k.val - 2000 * n, by omega⟩ (Finset.mem_univ _)
        rw [gap_rows W c ⟨n, hN⟩ r _ (by show 2000 * n + (k.val - 2000 * n) < _; omega)] at q
        refine q.trans_eq (congrArg _ (Fin.ext ?_))
        show 2000 * n + (k.val - 2000 * n) = k.val
        omega
    · intro h
      refine ⟨fun k hk => h k (by omega), le_top, fun j _ => ?_⟩
      rw [gap_rows W c ⟨n, hN⟩ r j (by show 2000 * n + j.val < _; omega)]
      exact h _ (by show 2000 * n + j.val < _; omega)

end Blocks

/-- A greatest lower bound of finitely many values is one of them. -/
theorem least_attained {ι : Type} [Fintype ι] [Nonempty ι] (f : ι → EReal) (s : EReal) (h : ∀ x, x ≤ s ↔ ∀ k, x ≤ f k) : ∃ k, s = f k := by
  obtain ⟨k, -, hk⟩ := Finset.exists_min_image Finset.univ f Finset.univ_nonempty
  exact ⟨k, le_antisymm ((h s).mp le_rfl k) ((h (f k)).mpr fun j => hk j (Finset.mem_univ j))⟩

end Cert.Proof.Near

end
-- ==== Proof.Dist.lean ====
/-
  The distances the first region leaves are the reference's least distances.
-/
module

public import proofs.«01_k».proof.Proof.Kept
public import proofs.«01_k».proof.Proof.Near
public import proofs.«01_k».proof.Proof.Reference
public import Idealize.ShloMosaic.Lib.StableHlo.RunRead

@[expose] public section

set_option maxRecDepth 16384

noncomputable section

namespace Cert.Proof.Run

open Cert.KernelIdeal Cert.KernelIdeal.Gen
open Idealize.ShloMosaic Idealize.ShloMosaic.TcCoe

section Reads

variable {F : FTy → Type} [FloatOps F] [Named F]
variable (m : (ℓ : Loc nD τ sig) → Buf (Elt F) ℓ)

theorem U1_arg0 (c : Dev nD) : U1 m c main_arg0 = m (c, main_arg0) := U1_of m c main_arg0 (by decide)
theorem U1_arg1 (c : Dev nD) : U1 m c main_arg1 = m (c, main_arg1) := U1_of m c main_arg1 (by decide)

theorem flush_dist : ∀ t : Fin cfg0.N, win0_2.flush t = true → t.val = 49 := (by decide +kernel : ∀ t : Fin grid0.N, _)
theorem index_dist : ∀ t : Fin cfg0.N, win0_2.index t = ![0, 0] := (by decide +kernel : ∀ t : Fin grid0.N, _)

theorem U2_dist (c : Dev nD) (hp : ∀ t, Region0.patches (U1 m) c t = U1 m c main_arg0) :
    U2 m c main_v0_0 = k0_pay2 (U1 m c main_arg0) (Region0.state (U1 m) c 50).1 := by
  refine (Pipeline.afterRegion_arr (Region0.dat (U1 m) c) _ launch0.win.arr_inj 2).trans ?_
  refine (Region0.dat (U1 m) c).arrAt_eq_of_covers 2 _ (by decide +kernel) fun t hf y => ?_
  have h49 : t.val + 1 = 50 := congrArg (· + 1) (flush_dist t hf)
  blk_simp
  rw [Region0.after_2, h49, hp]
  refine congrArg (k0_pay2 _ _) ?_
  blk_ext [index_dist]

end Reads

/-! ## At the extended reals -/

open Near

variable (m : (ℓ : Loc nD τ sig) → Buf (Elt Ideal) ℓ) (c : Dev nD)

/-- The patches and the memory rows. -/
abbrev A : FVec Ideal ⟨2, ![784, 384]⟩ .f32 := m (c, main_arg0)
abbrev B : FVec Ideal ⟨2, ![100000, 384]⟩ .f32 := m (c, main_arg1)

/-- The running minimum at the end. -/
abbrev least (r : Fin 784) : EReal := (Region0.state (U1 m) c 50).1 (ix2 r 0)

theorem least_le (r : Fin 784) (x : EReal) : x ≤ least m c r ↔ ∀ k, x ≤ gap (A m c) (B m c) r k := by
  have h := state_min (U1 m) c r 50 le_rfl x
  rw [U1_arg0 m c, U1_arg1 m c] at h
  exact h.trans ⟨fun g k => g k (by omega), fun g k _ => g k⟩

/-- A distance from the two parts of its square. -/
def length (p g : EReal) : EReal := Ideal.sqrt (max (g + p) (Ideal.ofBits .f32 0x2B8CBCCC#32))

theorem sqrt_mono {x y : EReal} (h : x ≤ y) : Ideal.sqrt x ≤ Ideal.sqrt y := by
  induction x using EReal.rec with
  | bot => exact bot_le
  | top => rw [top_le_iff.mp h]
  | coe a =>
    induction y using EReal.rec with
    | bot => exact absurd h (by simp)
    | top => exact le_top
    | coe b =>
      have hab : a ≤ b := EReal.coe_le_coe_iff.mp h
      rw [Ideal.sqrt_coe, Ideal.sqrt_coe]
      split
      · exact bot_le
      · rw [if_neg (by linarith)]
        exact EReal.coe_le_coe_iff.mpr (Real.sqrt_le_sqrt hab)

theorem length_mono (p : EReal) {g h : EReal} (e : g ≤ h) : length p g ≤ length p h :=
  sqrt_mono (max_le_max (by gcongr) le_rfl)

/-- A reference distance, its square split as the kernel splits it. -/
theorem distance_at (a : FVec Ideal ⟨2, ![784, 384]⟩ .f32) (b : FVec Ideal ⟨2, ![100000, 384]⟩ .f32) (r : Fin 784) (k : Fin 100000) :
    Ref.distances (F := Ideal) a b (ix2 r k) = length (norm2 a r) (gap a b r k) := by
  unfold Ref.distances Ref.squares
  pointwise
  show Ideal.sqrt (max (norm2 a r + norm2 b k - Ideal.ofBits .f32 0x40000000#32 * inner a b r k) _) = _
  unfold length gap
  rw [sub_eq_add_neg, sub_eq_add_neg, add_assoc, add_comm (norm2 a r)]

theorem nearest_at (d : FVec Ideal ⟨2, ![784, 100000]⟩ .f32) (r : Fin 784) (x : EReal) :
    x ≤ Ref.nearest (F := Ideal) d (ix1 r) ↔ ∀ k, x ≤ d (ix2 r k) := by
  have e : Ref.nearest (F := Ideal) d (ix1 r) = (Finset.univ : Finset (Fin 100000)).fold min ⊤ (fun k => d (ix2 r k)) := by
    unfold Ref.nearest
    pointwise
    rw [inf_word]
  rw [e, Finset.le_fold_min]
  simp

/-- The first region's distances are the reference's. -/
theorem dist_eq (r : Fin 784) : U2 m c main_v0_0 (ix2 r 0) = Ref.nearest (Ref.distances (F := Ideal) (A m c) (B m c)) (ix1 r) := by
  have hp : ∀ t, Region0.patches (U1 m) c t = U1 m c main_arg0 := patches_eq (U1 m) c
  rw [U2_dist m c hp]
  refine (dist_at (U1 m c main_arg0) _ r).trans ?_
  rw [U1_arg0 m c]
  show length (norm2 (A m c) r) (least m c r) = _
  obtain ⟨k, hk⟩ := least_attained _ _ (least_le m c r)
  refine le_antisymm ((nearest_at _ r _).mpr fun j => ?_) ?_
  · rw [distance_at]
    exact length_mono _ ((least_le m c r _).mp le_rfl j)
  · rw [hk, ← distance_at]
    exact (nearest_at _ r _).mp le_rfl k

end Cert.Proof.Run

end
-- ==== Proof.Weights.lean ====
/-
  The interpolation weights: the kernel's table of words and the reference's formula are the same sixteenths.
-/
module

public import proofs.«01_k».proof.Defs
public import proofs.«01_k».proof.Proof.Gen.KernelIdeal.Skeleton
public import proofs.«01_k».proof.Proof.Reference
public import Idealize.ShloMosaic.Lib.ValueIdx
public import Idealize.ShloMosaic.Lib.Pointwise
public import Idealize.ShloMosaic.Lib.IdealHost
@[expose] public section
set_option maxRecDepth 16384
noncomputable section
namespace Cert.Proof.Weights
open Idealize.ShloMosaic
/-- Sixteenths of the weight that map position `i` takes of grid position `j`. -/
def sixteenths (i j : ℕ) : ℕ := 16 - ((min (2 * i - 7) 432 : ℕ) - (16 * j : ℕ) + ((16 * j : ℕ) - (min (2 * i - 7) 432 : ℕ)))

/-- The word of `k` sixteenths. -/
def wordOf (k : ℕ) : BitVec 32 :=
  [0x00000000#32, 0x3D800000#32, 0x3E000000#32, 0x3E400000#32, 0x3E800000#32, 0x3EA00000#32, 0x3EC00000#32, 0x3EE00000#32, 0x3F000000#32,
    0x3F100000#32, 0x3F200000#32, 0x3F300000#32, 0x3F400000#32, 0x3F500000#32, 0x3F600000#32, 0x3F700000#32, 0x3F800000#32].getD k 0#32

theorem word_value (k : ℕ) (h : k < 17) : Ideal.ofBits .f32 (wordOf k) = (((k : ℝ) / 16 : ℝ) : EReal) := by
  interval_cases k <;> simp only [wordOf, List.getD_cons_zero, List.getD_cons_succ] <;> simp [Ideal.ofBits, Ideal.ieee, -EReal.coe_mul] <;> norm_num
theorem table_words : ∀ (i : Fin 224) (j : Fin 28), Cert.KernelIdeal.lit0 (Cert.KernelIdeal.S224x28.rowMajor (ix2 i j)) = wordOf (sixteenths i.val j.val) := by
  decide +kernel

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

theorem word_27 : Ideal.ofBits .f32 0x41D80000#32 = ((27 : ℝ) : EReal) := by simp [Ideal.ofBits, Ideal.ieee, -EReal.coe_mul]; norm_num
theorem word_half : Ideal.ofBits .f32 0x3F000000#32 = ((1 / 2 : ℝ) : EReal) := by simp [Ideal.ofBits, Ideal.ieee, -EReal.coe_mul]; norm_num
theorem word_eighth : Ideal.ofBits .f32 0x3E000000#32 = ((1 / 8 : ℝ) : EReal) := by simp [Ideal.ofBits, Ideal.ieee, -EReal.coe_mul]; norm_num

theorem count_value (k : ℕ) (h : k < 224) : (FloatOps.sitofp (F := Ideal) .f32 (BitVec.ofNat 32 k) : EReal) = ((k : ℝ) : EReal) := by
  show (((BitVec.ofNat 32 k).toInt : ℝ) : EReal) = _
  have e : (BitVec.ofNat 32 k).toNat = k := by rw [BitVec.toNat_ofNat]; omega
  rw [BitVec.toInt_eq_toNat_of_lt (by omega), e]
  norm_cast

/-- The clamped position, in sixteenths. -/
theorem position (i : ℕ) : min (27 : ℝ) (max 0 ((i + 1 / 2) * (1 / 8) - 1 / 2)) = ((min (2 * i - 7) 432 : ℕ) : ℝ) / 16 := by
  rcases le_total (2 * i) 7 with h | h
  · have h' : (2 * i : ℝ) ≤ 7 := by exact_mod_cast h
    rw [Nat.sub_eq_zero_of_le h, max_eq_left (by linarith), min_eq_right (by norm_num)]; simp
  · have h' : (7 : ℝ) ≤ 2 * i := by exact_mod_cast h
    rw [max_eq_right (by linarith)]
    push_cast [h]
    rcases le_total (2 * i - 7 : ℝ) 432 with g | g
    · rw [min_eq_left g, min_eq_right (by linarith)]; ring
    · rw [min_eq_right g, min_eq_left (by linarith)]; norm_num

theorem weight (i j : ℕ) : max (0 : ℝ) (1 - |min (27 : ℝ) (max 0 ((i + 1 / 2) * (1 / 8) - 1 / 2)) - j|) = (sixteenths i j : ℝ) / 16 := by
  rw [position]
  unfold sixteenths
  generalize min (2 * i - 7) 432 = y
  have hd : |(y : ℝ) / 16 - j| = ((y - 16 * j + (16 * j - y) : ℕ) : ℝ) / 16 := by
    rcases le_total y (16 * j) with h | h
    · have h' : (y : ℝ) ≤ 16 * j := by exact_mod_cast h
      rw [Nat.sub_eq_zero_of_le h, abs_of_nonpos (by linarith)]; push_cast [h]; ring
    · have h' : (16 * j : ℝ) ≤ y := by exact_mod_cast h
      rw [Nat.sub_eq_zero_of_le h, abs_of_nonneg (by linarith)]; push_cast [h]; ring
  rw [hd]
  generalize y - 16 * j + (16 * j - y) = d
  rcases le_total d 16 with h | h
  · have h' : (d : ℝ) ≤ 16 := by exact_mod_cast h
    rw [max_eq_right (by linarith)]; push_cast [h]; ring
  · have h' : (16 : ℝ) ≤ d := by exact_mod_cast h
    rw [max_eq_left (by linarith), Nat.sub_eq_zero_of_le h]; simp

theorem weights_at (i : Fin 224) (j : Fin 28) : Ref.weights (F := Ideal) (ix2 i j) = (((sixteenths i.val j.val : ℝ) / 16 : ℝ) : EReal) := by
  unfold Ref.weights
  pointwise
  simp only [id]
  pointwise
  rw [count_value i.val i.isLt, count_value j.val (by omega), word_27, word_half, word_eighth]
  rw [← weight]
  show max (0 : EReal) (1 - (fun x : EReal => max x (-x)) (min ((27 : ℝ) : EReal) (max 0
    ((((i.val : ℝ) : EReal) + ((1 / 2 : ℝ) : EReal)) * ((1 / 8 : ℝ) : EReal) - ((1 / 2 : ℝ) : EReal))) - ((j.val : ℝ) : EReal))) = _
  rw [← EReal.coe_zero, ← EReal.coe_one]
  simp only [← EReal.coe_add, ← EReal.coe_mul, ← EReal.coe_sub, ← EReal.coe_neg, max_coe, min_coe, abs_eq_max_neg]

/-- The table's value at a place is the reference's weight there. -/
theorem table_at (i : Fin 224) (j : Fin 28) :
    Ideal.ofBits .f32 (Cert.KernelIdeal.lit0 (Cert.KernelIdeal.S224x28.rowMajor (ix2 i j))) = Ref.weights (F := Ideal) (ix2 i j) := by
  rw [table_words, word_value _ (by unfold sixteenths; omega), weights_at]

end Cert.Proof.Weights
-- ==== Proof.Maps.lean ====
/-
  The segmentation map: both programs interpolate the least distances with the same weights.
-/
module

public import proofs.«01_k».proof.Proof.Dist
public import proofs.«01_k».proof.Proof.Weights

@[expose] public section

set_option maxRecDepth 16384

noncomputable section

namespace Cert.Proof.Run

open Cert.KernelIdeal Cert.KernelIdeal.Gen
open Idealize.ShloMosaic Idealize.ShloMosaic.TcCoe

section Reads

variable {F : FTy → Type} [FloatOps F] [Named F]
variable (m : (ℓ : Loc nD τ sig) → Buf (Elt F) ℓ)

theorem U7_map (c : Dev nD) : U7 m c main_v20 = shapeCast S1x1x224x224 (U6 m c main_v18_1) shapeCasts_S224x224_S1x1x224x224 := by
  unfold U7; after_reads_simp; rfl

theorem U5_grid (c : Dev nD) : U5 m c main_v17 = shapeCast S28x28 (U2 m c main_v0_0) shapeCasts_S784x1_S28x28 := by
  rw [← U3_of m c main_v0_0 (by decide), ← U4_of m c main_v0_0 (by decide)]
  unfold U5; after_reads_simp; rfl

theorem U5_table (c : Dev nD) : U5 m c main_cst = fun i => FloatOps.ofBits .f32 (lit0 (S224x28.rowMajor i)) := by
  refine (U5_of m c main_cst (by decide)).trans <| (U4_of m c main_cst (by decide)).trans <|
    (U3_of m c main_cst (by decide)).trans <| (U2_of m c main_cst (by decide)).trans ?_
  unfold U1; after_reads_simp; rfl

theorem index_whole : ∀ t : Fin cfg2.N, win2_0.index t = ![0, 0] ∧ win2_5.index t = ![0, 0] ∧ win2_7.index t = ![0, 0] :=
  (by decide +kernel : ∀ t : Fin grid2.N, _)

theorem grid_block (W : Dev nD → Valuation τ sig (Elt F)) (c : Dev nD) (t : Fin cfg2.N) :
    Region2.blockAt W c 0 t = W c (Proc.devRef .tc main_v17) := by
  funext i
  unfold Region2.blockAt
  blk_simp
  refine congrArg (W c (Proc.devRef .tc main_v17)) ?_
  blk_ext [index_whole]

theorem table_block (W : Dev nD → Valuation τ sig (Elt F)) (c : Dev nD) (t : Fin cfg2.N) :
    Region2.blockAt W c 5 t = W c (Proc.devRef .tc main_cst) := by
  funext i
  unfold Region2.blockAt
  blk_simp
  refine congrArg (W c (Proc.devRef .tc main_cst)) ?_
  blk_ext [index_whole]

theorem U6_map (c : Dev nD) : U6 m c main_v18_1 = Region2.segm (U5 m c main_v17) (U5 m c main_cst) := by
  refine (Pipeline.afterRegion_arr (Region2.dat (U5 m) c) _ launch2.win.arr_inj 7).trans ?_
  refine (Region2.dat (U5 m) c).arrAt_eq_of_covers 7 _ (by decide +kernel) fun t hf y => ?_
  blk_simp
  rw [Region2.after_7, grid_block, table_block]
  refine congrArg (Region2.segm _ _) ?_
  blk_ext [index_whole]

end Reads

/-! ## At the extended reals -/

theorem interpolate (D : Vec Ideal S784x1 .f32) (R : Vec Ideal S224x28 .f32) (i j : Fin 224) :
    shapeCast S1x1x224x224 (Region2.segm (shapeCast S28x28 D shapeCasts_S784x1_S28x28) R) shapeCasts_S224x224_S1x1x224x224 (ix4 0 0 i j)
      = ∑ w : Fin 28, (∑ h : Fin 28, R (ix2 i h) * D (ix2 (⟨h.val * 28 + w.val, by omega⟩ : Fin 784) 0)) * R (ix2 j w) := by
  unfold Region2.segm k2_pay2 k2_pay3
  pointwise

theorem spread_at (n : FVec Ideal ⟨1, ![784]⟩ .f32) (i j : Fin 224) :
    Ref.spread (F := Ideal) n (ix4 0 0 i j)
      = ∑ w : Fin 28, (∑ h : Fin 28, n (ix1 (⟨h.val * 28 + w.val, by omega⟩ : Fin 784)) * Ref.weights (F := Ideal) (ix2 i h)) * Ref.weights (F := Ideal) (ix2 j w) := by
  unfold Ref.spread
  pointwise

/-- The second result is the reference's. -/
theorem map_eq (m : (ℓ : Loc nD τ sig) → Buf (Elt Ideal) ℓ) (c : Dev nD) :
    U7 m c main_v20 = Ref.segm (F := Ideal) (A m c) (B m c) := by
  rw [U7_map, U6_map, U5_grid, U5_table]
  funext x
  obtain ⟨p, q, i, j, rfl⟩ : ∃ (p q : Fin 1) (i j : Fin 224), x = ix4 p q i j := ⟨_, _, _, _, eq_ix4 x⟩
  obtain rfl : p = 0 := Subsingleton.elim _ _
  obtain rfl : q = 0 := Subsingleton.elim _ _
  refine (interpolate _ _ i j).trans ((spread_at _ i j).trans ?_).symm
  refine Finset.sum_congr rfl fun w _ => ?_
  refine congrArg₂ (· * ·) (Finset.sum_congr rfl fun h _ => ?_) (Weights.table_at j w).symm
  rw [mul_comm]
  exact congrArg₂ (· * ·) (Weights.table_at i h).symm (dist_eq m c _).symm

end Cert.Proof.Run

end
-- ==== Proof.Segm.lean ====
/-
  The second result: kernel and reference leave the same segmentation map, whatever the arguments.
-/
module

public import proofs.«01_k».proof.Proof.Maps
public import proofs.«01_k».proof.Proof.Shapes

@[expose] public section

noncomputable section

namespace Cert.Proof

open Idealize.ShloMosaic Idealize.ShloMosaic.TcCoe Idealize.SL.Sem

/-- Nothing of the first result is selected. -/
theorem nothing_selected {P : Prop} (h : (0#1 : BitVec 1) = 1#1) : P := absurd h (by decide)

theorem algebraic_on_segm : Cert.algebraic_KernelIdeal_ReferenceIdeal_on_segm_only := by
  intro m ρ m' ρ' _ hagree
  refine ⟨fun c => Run.U7 m c Cert.KernelIdeal.main_v19, fun c => Run.U7 m c Cert.KernelIdeal.main_v20,
    (θ_run Cert.KernelIdeal.defs _ _).mono (fun r h c => ⟨fun i _ => congrFun (h.1 c).1 i, fun i _ => congrFun (h.1 c).2.1 i, (h.1 c).2.2⟩)
      (Run.run_read (F := Ideal) m ρ),
    (θ_run Cert.ReferenceIdeal.defs _ _).mono (fun r h c => ⟨fun i hi => nothing_selected hi, fun i _ => ?_, (h.1 c).2.2⟩)
      (Ref.run (F := Ideal) m' ρ')⟩
  refine congrFun ((h.1 c).2.1.trans ?_) i
  rw [(hagree c).1, (hagree c).2]
  exact (Run.map_eq m c).symm

end Cert.Proof

end
-- ==== Proof.First.lean ====
/-
  First places: the earliest index with the least value among those allowed, and how a fold of signed minima, a
  reduction carrying indices and a sorted prefix each find it.
-/
module

public import Idealize.ShloMosaic.PureOps.Ideal.Laws
public import Idealize.ShloMosaic.PureOps.Reduce
public import Idealize.ShloMosaic.Lib.SortFacts
public import Idealize.ShloMosaic.Lib.SortPrefix
public import Idealize.ShloMosaic.Lib.SortNet.Extract
public import Idealize.ShloMosaic.Lib.DynamicIndex

@[expose] public section

noncomputable section

namespace Cert.Proof.First

open Idealize.ShloMosaic

/-! ## The order by value, then by place -/

section Order
variable {n : ℕ}

/-- `a` is before `b`: its value is less, or they tie and it is earlier. -/
def Before (f : Fin n → EReal) (a b : Fin n) : Prop := f a < f b ∨ (f a = f b ∧ a < b)

/-- `κ` is the first of the places that satisfy `S`. -/
def First (S : Fin n → Prop) (f : Fin n → EReal) (κ : Fin n) : Prop := S κ ∧ ∀ q, S q → q ≠ κ → Before f κ q

theorem First.le {S : Fin n → Prop} {f : Fin n → EReal} {κ : Fin n} (h : First S f κ) {q : Fin n} (hq : S q) : f κ ≤ f q := by
  by_cases e : q = κ
  · rw [e]
  · rcases h.2 q hq e with g | g
    · exact g.le
    · exact g.1.le

/-- Of the places with its value it is the earliest. -/
theorem First.place {S : Fin n → Prop} {f : Fin n → EReal} {κ : Fin n} (h : First S f κ) {q : Fin n} (hq : S q) (e : f q = f κ) : κ ≤ q := by
  by_cases e' : q = κ
  · rw [e']
  · rcases h.2 q hq e' with g | g
    · exact absurd e g.ne'
    · exact g.2.le

theorem exists_first (S : Fin n → Prop) (f : Fin n → EReal) (h : ∃ q, S q) : ∃ κ, First S f κ := by
  classical
  obtain ⟨q, hq⟩ := h
  obtain ⟨κ, hκ, hmin⟩ := Finset.exists_min_image (Finset.univ.filter S) (fun q => toLex (f q, q)) ⟨q, by simpa using hq⟩
  refine ⟨κ, (Finset.mem_filter.mp hκ).2, fun q hq hne => ?_⟩
  have hl := hmin q (by simpa using hq)
  rw [Prod.Lex.le_iff] at hl
  rcases hl with g | g
  · exact Or.inl g
  · exact Or.inr ⟨g.1, lt_of_le_of_ne g.2 (Ne.symm hne)⟩

/-- Two values in the same order have the same first places. -/
theorem First.same {S : Fin n → Prop} {f g : Fin n → EReal} (hfg : ∀ a b, f a < f b ↔ g a < g b) {κ : Fin n} (h : First S f κ) : First S g κ := by
  refine ⟨h.1, fun q hq hne => ?_⟩
  rcases h.2 q hq hne with e | e
  · exact Or.inl ((hfg _ _).mp e)
  · refine Or.inr ⟨le_antisymm (not_lt.mp fun l => ?_) (not_lt.mp fun l => ?_), e.2⟩
    · exact absurd e.1 ((hfg _ _).mpr l).ne'
    · exact absurd e.1 ((hfg _ _).mpr l).ne

end Order

/-! ## Words of places -/

theorem word_toInt {k : ℕ} (hk : k < 2 ^ 31) : (BitVec.ofNat 32 k).toInt = k := toInt_ofNat_of_lt hk

/-- A fold of signed minima is its least word. -/
theorem fold_least {ι : Type} [DecidableEq ι] (s : Finset ι) (g : ι → BitVec 32) (init : BitVec 32) (κ : ι) (hκ : κ ∈ s)
    (hg : ∀ i ∈ s, (g κ).toInt ≤ (g i).toInt) (hi : (g κ).toInt ≤ init.toInt) : s.fold IntOp.minsi init g = g κ := by
  have key : ∀ s : Finset ι, (∀ i ∈ s, (s.fold IntOp.minsi init g).toInt ≤ (g i).toInt)
      ∧ (s.fold IntOp.minsi init g = init ∨ ∃ i ∈ s, s.fold IntOp.minsi init g = g i) := by
    intro s
    induction s using Finset.induction_on with
    | empty => exact ⟨fun i hi => absurd hi (Finset.notMem_empty i), Or.inl Finset.fold_empty⟩
    | insert a s has ih =>
      rw [Finset.fold_insert has]
      have hm := SortNet.toInt_minsi (g a) (s.fold IntOp.minsi init g)
      refine ⟨fun i hi => ?_, ?_⟩
      · rcases Finset.mem_insert.mp hi with rfl | hi
        · rw [hm]; exact min_le_left _ _
        · rw [hm]; exact (min_le_right _ _).trans (ih.1 i hi)
      · have hc : IntOp.minsi (g a) (s.fold IntOp.minsi init g) = g a ∨ IntOp.minsi (g a) (s.fold IntOp.minsi init g) = s.fold IntOp.minsi init g := by
          unfold IntOp.minsi; split
          · exact Or.inl rfl
          · exact Or.inr rfl
        rcases hc with hc | hc
        · exact Or.inr ⟨a, Finset.mem_insert_self _ _, hc⟩
        · rw [hc]
          rcases ih.2 with e | ⟨i, hi, e⟩
          · exact Or.inl e
          · exact Or.inr ⟨i, Finset.mem_insert_of_mem hi, e⟩
  obtain ⟨h1, h2⟩ := key s
  refine BitVec.eq_of_toInt_eq (le_antisymm (h1 κ hκ) ?_)
  rcases h2 with e | ⟨i, hi', e⟩
  · rw [e]; exact hi
  · rw [e]; exact hg i hi'

/-- The least place word among those with the value of `κ`, the others standing at a word past every place. -/
theorem fold_place {ι : Type} [Fintype ι] [DecidableEq ι] (f : ι → EReal) (pos : ι → ℕ) (κ : ι) (hpos : ∀ i, pos i < 1073741824)
    (hκ : ∀ i, f i = f κ → pos κ ≤ pos i) :
    Finset.univ.fold IntOp.minsi 2147483647#32 (fun x => if f x = f κ then BitVec.ofNat 32 (pos x) else 1073741824#32) = BitVec.ofNat 32 (pos κ) := by
  have hw : ∀ i, (BitVec.ofNat 32 (pos i)).toInt = pos i := fun i => word_toInt (by have := hpos i; omega)
  have e : (fun x => if f x = f κ then BitVec.ofNat 32 (pos x) else 1073741824#32) κ = BitVec.ofNat 32 (pos κ) := if_pos rfl
  rw [← e]
  refine fold_least _ _ _ κ (Finset.mem_univ _) (fun i _ => ?_) ?_
  · rw [if_pos rfl, hw]
    by_cases h : f i = f κ
    · rw [if_pos h, hw]; exact_mod_cast hκ i h
    · rw [if_neg h, show (1073741824#32 : BitVec 32).toInt = 1073741824 by decide]
      have := hpos κ; omega
  · rw [if_pos rfl, hw, show (2147483647#32 : BitVec 32).toInt = 2147483647 by decide]
    have := hpos κ; omega

/-! ## Reductions that carry an index -/

/-- A fold that keeps the better of two is the best of all. -/
theorem foldl_best {α : Type} (le : α → α → Prop) (r : α → α → α) (anti : ∀ p q, le p q → le q p → p = q)
    (pick : ∀ p q, r p q = p ∨ r p q = q) (low : ∀ p q, le (r p q) p ∧ le (r p q) q) (l : List α) :
    ∀ acc b : α, (∀ q ∈ acc :: l, le b q) → b ∈ acc :: l → l.foldl r acc = b := by
  induction l with
  | nil => intro acc b _ hm; exact (List.mem_singleton.mp hm).symm
  | cons x l ih =>
    intro acc b hb hm
    refine ih (r acc x) b (fun q hq => ?_) ?_
    · rcases List.mem_cons.mp hq with rfl | hq
      · rcases pick acc x with e | e <;> rw [e]
        · exact hb acc (by simp)
        · exact hb x (by simp)
      · exact hb q (by simp [hq])
    · rcases List.mem_cons.mp hm with rfl | hm
      · exact List.mem_cons.mpr (Or.inl (anti _ _ (by
          rcases pick b x with e | e <;> rw [e]
          · exact hb b (by simp)
          · exact hb x (by simp)) (low b x).1))
      · rcases List.mem_cons.mp hm with rfl | hm
        · exact List.mem_cons.mpr (Or.inl (anti _ _ (by
            rcases pick acc b with e | e <;> rw [e]
            · exact hb acc (by simp)
            · exact hb b (by simp)) (low acc b).2))
        · exact List.mem_cons.mpr (Or.inr hm)

/-! ## Sorted prefixes -/

/-- A sort sees only how later elements compare with earlier ones. -/
theorem stableSort_ties {ι : Type} (B B' : ι → ι → Bool) : ∀ l : List ι, l.Pairwise (fun a b => B b a = B' b a) → stableSort B l = stableSort B' l
  | [], _ => rfl
  | a :: l, h => by
    have h' := List.pairwise_cons.mp h
    unfold stableSort
    rw [stableSort_ties B B' l h'.2]
    exact insertBefore_congr B B' a _ fun b hb => h'.1 b ((perm_stableSort B' l).mem_iff.mp hb)

section Prefix
variable {n : ℕ} (f : Fin n → EReal)

theorem strict_total : StrictTotalBefore fun k k' : Fin n => decide (f k < f k') || (decide (f k = f k') && decide (k < k')) :=
  StrictTotalBefore.of_key_then_position (fun a b : EReal => decide (a < b)) f (by simp)
    (fun a b c h h' => by simp only [decide_eq_true_eq] at *; exact h.trans h') (fun a b => by simpa using lt_trichotomy a b)

theorem sortedFrom_ties (k : Fin n) : sortedFrom (fun k k' => decide (f k < f k')) k
    = sortedFrom (fun k k' : Fin n => decide (f k < f k') || (decide (f k = f k') && decide (k < k'))) k := by
  unfold sortedFrom
  have e : sortPositions n (fun k k' => decide (f k < f k'))
      = sortPositions n (fun k k' : Fin n => decide (f k < f k') || (decide (f k = f k') && decide (k < k'))) := by
    refine stableSort_ties _ _ _ ((List.pairwise_lt_finRange n).imp fun {a b} h => ?_)
    simp [not_lt.mpr h.le]
  simp only [List.get_eq_getElem, e]
  rfl

/-- The first three places of the sort. -/
theorem sorted_three (σ : Fin 3 → Fin n) (h0 : First (fun _ => True) f (σ 0)) (h1 : First (fun q => q ≠ σ 0) f (σ 1))
    (h2 : First (fun q => q ≠ σ 0 ∧ q ≠ σ 1) f (σ 2)) (hn : 3 ≤ n) (i : Fin 3) :
    sortedFrom (fun k k' => decide (f k < f k')) (i.castLE hn) = σ i := by
  have hb : ∀ {a b : Fin n}, Before f a b → (decide (f b < f a) || (decide (f b = f a) && decide (b < a))) = false := by
    intro a b h
    rcases h with h | h
    · simp [not_lt.mpr h.le, h.ne']
    · simp [h.1, not_lt.mpr h.2.le]
  have b01 := h0.2 (σ 1) trivial h1.1
  have b02 := h0.2 (σ 2) trivial h2.1.1
  have b12 := h1.2 (σ 2) h2.1.1 h2.1.2
  rw [sortedFrom_ties]
  refine (strict_total f).sortedFrom_eq_of_prefix hn σ ?_ ?_ ?_ i
  · intro a b
    have n01 : σ 1 ≠ σ 0 := h1.1
    have n02 : σ 2 ≠ σ 0 := h2.1.1
    have n12 : σ 2 ≠ σ 1 := h2.1.2
    fin_cases a <;> fin_cases b <;> simp [n01, n02, n12, n01.symm, n02.symm, n12.symm]
  · intro a b hab
    fin_cases a <;> fin_cases b <;> first | exact absurd hab (by decide) | exact hb b01 | exact hb b02 | exact hb b12
  · intro a p hp
    fin_cases a
    · exact hb (h0.2 p trivial (hp 0).symm)
    · exact hb (h1.2 p (hp 0).symm (hp 1).symm)
    · exact hb (h2.2 p ⟨(hp 0).symm, (hp 1).symm⟩ (hp 2).symm)

end Prefix

end Cert.Proof.First

end
-- ==== Proof.Places.lean ====
/-
  What the second region takes from its finished table: the places of the second and the third smallest entry, the table
  read row after row.
-/
module

public import proofs.«01_k».proof.Proof.First
public import proofs.«01_k».proof.Proof.Gen.KernelIdeal
public import proofs.«01_k».proof.Proof.Gen.KernelIdeal.Skeleton
public import Idealize.ShloMosaic.Lib.ValueIdx
public import Idealize.ShloMosaic.Lib.ValueLayout
public import Idealize.ShloMosaic.Lib.Pointwise

@[expose] public section

set_option maxRecDepth 16384

noncomputable section

namespace Cert.Proof.Places

open Cert.KernelIdeal Cert.KernelIdeal.Gen Cert.Proof.First
open Idealize.ShloMosaic

theorem top_word : Ideal.ofBits .f32 0x7F800000#32 = ⊤ := by simp [Ideal.ofBits, Ideal.ieee]

/-! ## Reductions of a whole table -/

section Whole
variable (a b : ℕ) (h1 : Shape.ShapeCasts ⟨2, ![a, b]⟩ ⟨3, ![1, a, b]⟩) (h2 : Shape.Reduces ⟨3, ![1, a, b]⟩ [1, 2] ⟨1, ![1]⟩)
  (h3 : Shape.ShapeCasts ⟨1, ![1]⟩ ⟨3, ![1, 1, 1]⟩) (h4 : ∀ x, (![0, 0, 0] : Fin 3 → ℕ) x < (⟨3, ![1, 1, 1]⟩ : Shape).size x)

theorem min_words (v : IVec ⟨2, ![a, b]⟩ 32) :
    extractAt ![0, 0, 0] (shapeCast ⟨3, ![1, 1, 1]⟩ (multiReductionI .minsi [1, 2] ⟨1, ![1]⟩ (shapeCast ⟨3, ![1, a, b]⟩ v h1) 2147483647#32 h2 rfl) h3) h4
      = Finset.univ.fold IntOp.minsi 2147483647#32 (fun x : Fin a × Fin b => v (ix2 x.1 x.2)) := by
  pointwise
  refine congrArg (fun f => Finset.fold IntOp.minsi 2147483647#32 f Finset.univ) (funext fun x => ?_)
  exact ValueIdx.shapeCast_ab_1ab_apply v h1 0 x.1 x.2

theorem min_values (v : FVec Ideal ⟨2, ![a, b]⟩ .f32) :
    extractAt ![0, 0, 0] (shapeCast ⟨3, ![1, 1, 1]⟩ (multiReduction .minimumf [1, 2] ⟨1, ![1]⟩ (shapeCast ⟨3, ![1, a, b]⟩ v h1) 0x7F800000#32 h2 (.inl rfl) rfl) h3) h4
      = Finset.univ.fold min ⊤ (fun x : Fin a × Fin b => v (ix2 x.1 x.2)) := by
  pointwise
  rw [top_word]
  refine congrArg (fun f => Finset.fold min ⊤ f Finset.univ) (funext fun x => ?_)
  exact ValueIdx.shapeCast_ab_1ab_apply v h1 0 x.1 x.2

end Whole

theorem select_words {α : Type} (x y : BitVec 32) (p q : α) : Scalar.select (IntOp.cmpi .eq x y) p q = if x = y then p else q := by
  by_cases h : x = y
  · simp [Scalar.select, IntOp.cmpi, h]
  · have e : (x == y) = false := by simpa using h
    simp [Scalar.select, IntOp.cmpi, h, e]

theorem select_values {α : Type} (x y : EReal) (p q : α) : Scalar.select (FloatOps.cmpf (F := Ideal) (φ := .f32) .oeq x y) p q = if x = y then p else q := by
  show Scalar.select (BitVec.ofBool (decide (x = y))) p q = _
  by_cases h : x = y <;> simp [Scalar.select, h]

/-! ## The table -/

/-- The place of an entry, row after row. -/
def flat (x : Fin 25 × Fin 4000) : Fin 100000 := ⟨4000 * x.1.val + x.2.val, by have := x.1.isLt; have := x.2.isLt; omega⟩

theorem flat_word (i : Fin 25) (j : Fin 4000) : k1_pay3 (ix2 i j) = BitVec.ofNat 32 (flat (i, j)).val := by
  show IntOp.addi (IntOp.muli _ 4000#32) _ = _
  have e0 : iota .tc S25x4000 32 [0] iota_S25x4000_d0_w32 (ix2 i j) = BitVec.ofNat 32 i.val := by pointwise
  have e1 : iota .tc S25x4000 32 [1] iota_S25x4000_d1_w32 (ix2 i j) = BitVec.ofNat 32 j.val := by pointwise
  rw [e0, e1]
  show BitVec.ofNat 32 i.val * BitVec.ofNat 32 4000 + BitVec.ofNat 32 j.val = BitVec.ofNat 32 (4000 * i.val + j.val)
  rw [← BitVec.ofNat_mul, ← BitVec.ofNat_add, Nat.mul_comm]

theorem flat_surj (q : Fin 100000) : ∃ x, flat x = q :=
  ⟨(⟨q.val / 4000, by omega⟩, ⟨q.val % 4000, by omega⟩), Fin.ext (by show 4000 * (q.val / 4000) + q.val % 4000 = q.val; omega)⟩

/-- The first place of the least entry. -/
def place (w : FVec Ideal S25x4000 .f32) : BitVec 32 :=
  Finset.univ.fold IntOp.minsi 2147483647#32 (fun x : Fin 25 × Fin 4000 =>
    if w (ix2 x.1 x.2) = Finset.univ.fold min ⊤ (fun x : Fin 25 × Fin 4000 => w (ix2 x.1 x.2)) then BitVec.ofNat 32 (flat x).val else 1073741824#32)

theorem place_term (w : FVec Ideal S25x4000 .f32) :
    extractAt ![0, 0, 0] (shapeCast S1x1x1 (multiReductionI .minsi [1, 2] S1 (shapeCast S1x25x4000
        (select (cmpf .oeq w (broadcast S25x4000 (extractAt ![0, 0, 0] (shapeCast S1x1x1 (multiReduction .minimumf [1, 2] S1
          (shapeCast S1x25x4000 w shapeCasts_S25x4000_S1x25x4000) 0x7F800000#32 reduces_S1x25x4000_S1 (.inl rfl) rfl) shapeCasts_S1_S1x1x1) inpos_S1x1x1_p0_0_0)))
          k1_pay3 (broadcast S25x4000 1073741824#32))
        shapeCasts_S25x4000_S1x25x4000) 2147483647#32 reduces_S1x25x4000_S1 rfl) shapeCasts_S1_S1x1x1) inpos_S1x1x1_p0_0_0 = place w := by
  refine (min_words 25 4000 _ _ _ _ _).trans ?_
  rw [min_values 25 4000]
  unfold place
  refine congrArg (fun f => Finset.fold IntOp.minsi 2147483647#32 f Finset.univ) (funext fun x => ?_)
  refine (select_values _ _ _ _).trans ?_
  rw [flat_word]
  rfl

/-- The table with the entry at one place put out of the way. -/
def cross (w : FVec Ideal S25x4000 .f32) (q : BitVec 32) : FVec Ideal S25x4000 .f32 :=
  select (cmpi .eq k1_pay3 (broadcast S25x4000 q)) (broadcast S25x4000 (Scalar.ofBits .f32 0x7F800000#32)) w

theorem cross_at (w : FVec Ideal S25x4000 .f32) (q : BitVec 32) (x : Fin 25 × Fin 4000) :
    cross w q (ix2 x.1 x.2) = if BitVec.ofNat 32 (flat x).val = q then ⊤ else w (ix2 x.1 x.2) := by
  refine (select_words _ _ _ _).trans ?_
  rw [flat_word, show (broadcast S25x4000 (Scalar.ofBits (F := Ideal) .f32 0x7F800000#32) (ix2 x.1 x.2) : EReal) = ⊤ from top_word]
  rfl

theorem crossed (w : FVec Ideal S25x4000 .f32) : k1_pay4 (F := Ideal) w = cross w (place w) := by
  rw [← place_term w]; rfl

theorem second_word (w : FVec Ideal S25x4000 .f32) : extractAt ![0, 0, 0] (k1_pay5 (F := Ideal) w) inpos_S1x1x1_p0_0_0 = place (cross w (place w)) := by
  rw [← crossed, ← place_term (k1_pay4 (F := Ideal) w)]; rfl

theorem third_word (w : FVec Ideal S25x4000 .f32) :
    extractAt ![0, 0, 0] (k1_pay2 (k1_pay6 (F := Ideal) w)) inpos_S1x1x1_p0_0_0 = place (cross (cross w (place w)) (place (cross w (place w)))) := by
  rw [← second_word w, ← crossed w, ← place_term (cross (k1_pay4 (F := Ideal) w) (extractAt ![0, 0, 0] (k1_pay5 (F := Ideal) w) inpos_S1x1x1_p0_0_0))]; rfl

/-! ## First, second and third -/

/-- The table holds `f` where `S` does, and is out of the way elsewhere. -/
def Holds (w : FVec Ideal S25x4000 .f32) (S : Fin 100000 → Prop) (f : Fin 100000 → EReal) : Prop :=
  ∀ x, (S (flat x) → w (ix2 x.1 x.2) = f (flat x)) ∧ (¬ S (flat x) → w (ix2 x.1 x.2) = ⊤)

theorem place_first {w : FVec Ideal S25x4000 .f32} {S : Fin 100000 → Prop} {f : Fin 100000 → EReal} (hw : Holds w S f) {κ : Fin 100000}
    (h : First S f κ) (hf : f κ < ⊤) : place w = BitVec.ofNat 32 κ.val := by
  obtain ⟨x, rfl⟩ := flat_surj κ
  have hx : w (ix2 x.1 x.2) = f (flat x) := (hw x).1 h.1
  have hm : Finset.univ.fold min ⊤ (fun x : Fin 25 × Fin 4000 => w (ix2 x.1 x.2)) = w (ix2 x.1 x.2) := by
    refine le_antisymm ((Finset.fold_min_le _).mpr (Or.inr ⟨x, Finset.mem_univ _, le_rfl⟩)) ((Finset.le_fold_min _).mpr ⟨le_top, fun y _ => ?_⟩)
    by_cases hy : S (flat y)
    · rw [hx, (hw y).1 hy]; exact h.le hy
    · rw [(hw y).2 hy]; exact le_top
  unfold place
  rw [hm]
  refine fold_place (fun x : Fin 25 × Fin 4000 => w (ix2 x.1 x.2)) (fun x => (flat x).val) x (fun y => by have := (flat y).isLt; omega) fun y hy => ?_
  by_cases hS : S (flat y)
  · exact h.place hS (by rw [← (hw y).1 hS, ← hx]; exact hy)
  · exact absurd ((hw y).2 hS) (by rw [show w (ix2 y.1 y.2) = w (ix2 x.1 x.2) from hy, hx]; exact hf.ne)

theorem word_inj {p q : Fin 100000} (h : BitVec.ofNat 32 p.val = BitVec.ofNat 32 q.val) : p = q := by
  have e := congrArg BitVec.toInt h
  rw [word_toInt (by omega), word_toInt (by omega)] at e
  exact Fin.ext (by exact_mod_cast e)

theorem holds_cross {w : FVec Ideal S25x4000 .f32} {S : Fin 100000 → Prop} {f : Fin 100000 → EReal} (hw : Holds w S f) (κ : Fin 100000) :
    Holds (cross w (BitVec.ofNat 32 κ.val)) (fun q => q ≠ κ ∧ S q) f := by
  intro x
  rw [cross_at]
  refine ⟨fun h => ?_, fun h => ?_⟩
  · rw [if_neg fun e => h.1 (word_inj e)]; exact (hw x).1 h.2
  · by_cases e : flat x = κ
    · rw [if_pos (by rw [e])]
    · rw [if_neg fun g => e (word_inj g)]; exact (hw x).2 fun hS => h ⟨e, hS⟩

end Cert.Proof.Places

end
-- ==== Proof.Args.lean ====
/-
  The row the nearest-neighbour region keeps beside its running minimum, and the two indices it makes at the end.
-/
module

public import proofs.«01_k».proof.Proof.First
public import proofs.«01_k».proof.Proof.Places
public import proofs.«01_k».proof.Proof.Dist

@[expose] public section

set_option maxRecDepth 16384

noncomputable section

namespace Cert.Proof.Near

open Cert.KernelIdeal Cert.KernelIdeal.Gen Cert.Proof.First
open Idealize.ShloMosaic Idealize.ShloMosaic.TcCoe

theorem next_arg (i : grid0.Coords) (x0 : Vec Ideal S784x384 .f32) (x1 : Vec Ideal S2000x384 .f32) (s : Vec Ideal S784x1 .f32) (a : Vec Ideal S784x1 .i32) (r : Fin 784) :
    k0_pay11 i x0 x1 s a (ix2 r 0) = if k0_pay8 x0 x1 (ix2 r 0) < s (ix2 r 0) then
        Finset.univ.fold IntOp.minsi 2147483647#32 (fun x : Fin 2000 => if k0_pay7 x0 x1 (ix2 r x) = k0_pay8 x0 x1 (ix2 r 0)
          then BitVec.ofNat 32 (2000 * (i 0).val + x.val) else 1073741824#32)
      else a (ix2 r 0) := by
  unfold k0_pay11 k0_pay9
  pointwise
  have e : ∀ x : Fin 2000, IntOp.addi (BitVec.ofNat 32 x.val) (Scalar.muli (BitVec.ofNat 32 (i 0).val) 2000#32) = BitVec.ofNat 32 (2000 * (i 0).val + x.val) := by
    intro x
    show BitVec.ofNat 32 x.val + BitVec.ofNat 32 (i 0).val * BitVec.ofNat 32 2000 = _
    rw [← BitVec.ofNat_mul, ← BitVec.ofNat_add, Nat.mul_comm, Nat.add_comm]
  simp only [e]

theorem recast (v : IVec S784x1 32) (r : Fin 784) : k0_pay1 v (ix2 r 0) = v (ix2 r 0) := by
  unfold k0_pay1; pointwise

section Blocks
variable (W : Dev nD → Valuation τ sig (Elt Ideal)) (c : Dev nD)

/-- The gaps of one patch to every memory row. -/
abbrev gaps (r : Fin 784) : Fin 100000 → EReal :=
  gap (n := 784) (m := 100000) (W c (Proc.devRef .tc main_arg0)) (W c (Proc.devRef .tc main_arg1)) r

theorem state_first (r : Fin 784) (hfin : ∀ k, gaps W c r k < ⊤) (n : ℕ) (hn : n ≤ 50) (κ : Fin 100000) (h : First (fun k => k.val < 2000 * n) (gaps W c r) κ) :
    (Region0.state W c n).1 (ix2 r 0) = gaps W c r κ ∧ (Region0.state W c n).2 (ix2 r 0) = BitVec.ofNat 32 κ.val := by
  have val : ∀ n ≤ 50, ∀ κ, First (fun k => k.val < 2000 * n) (gaps W c r) κ → (Region0.state W c n).1 (ix2 r 0) = gaps W c r κ := by
    intro n hn κ h
    exact le_antisymm ((state_min W c r n hn _).mp le_rfl κ h.1) ((state_min W c r n hn _).mpr fun k hk => h.le hk)
  refine ⟨val n hn κ h, ?_⟩
  induction n generalizing κ with
  | zero =>
    exact absurd (show κ.val < 2000 * 0 from h.1) (Nat.not_lt_zero κ.val)
  | succ n ih =>
    have hN : n < cfg0.N := Nat.lt_of_lt_of_eq (by omega : n < 50) N_0.symm
    have e := Region0.state_succ W c ⟨n, hN⟩
    dsimp only at e
    rw [e]
    show (k0_pay1 (k0_pay11 (grid0.coords ⟨n, hN⟩) _ _ _ _) (ix2 r 0) : BitVec 32) = _
    refine (recast _ r).trans ((next_arg _ _ _ _ _ r).trans ?_)
    rw [Region0.coord0 ⟨n, hN⟩]
    have hblock : ∀ j : Fin 2000, k0_pay7 (Region0.patches W c ⟨n, hN⟩) (Region0.rows W c ⟨n, hN⟩) (ix2 r j)
        = gaps W c r ⟨2000 * n + j.val, by omega⟩ := fun j =>
      (gap_block _ _ r j).trans (gap_rows W c ⟨n, hN⟩ r j (by show 2000 * n + j.val < _; omega))
    have hmin : ∀ x, x ≤ (k0_pay8 (Region0.patches W c ⟨n, hN⟩) (Region0.rows W c ⟨n, hN⟩) (ix2 r 0) : EReal) ↔ ∀ j : Fin 2000, x ≤ gaps W c r ⟨2000 * n + j.val, by omega⟩ := by
      intro x
      rw [min_block, Finset.le_fold_min]
      simp only [← gap_block, hblock]
      simp
    by_cases g : κ.val < 2000 * n
    · have h' : First (fun k => k.val < 2000 * n) (gaps W c r) κ := ⟨g, fun q hq => h.2 q (by show q.val < _; omega)⟩
      rw [if_neg, ih (by omega) κ h']
      rw [val n (by omega) κ h']
      exact not_lt.mpr ((hmin _).mpr fun j => h.le (by show 2000 * n + j.val < _; omega))
    · have hκ : κ.val < 2000 * (n + 1) := h.1
      obtain ⟨j, hj⟩ : ∃ j : Fin 2000, κ = ⟨2000 * n + j.val, by omega⟩ := ⟨⟨κ.val - 2000 * n, by omega⟩, Fin.ext (by show κ.val = 2000 * n + (κ.val - 2000 * n); omega)⟩
      have hm : (k0_pay8 (Region0.patches W c ⟨n, hN⟩) (Region0.rows W c ⟨n, hN⟩) (ix2 r 0) : EReal) = gaps W c r κ := by
        refine le_antisymm ?_ ((hmin _).mpr fun j => h.le (by show 2000 * n + j.val < _; omega))
        have := (hmin _).mp le_rfl j
        rw [← hj] at this
        exact this
      rw [if_pos]
      · have hp : ∀ x : Fin 2000, (k0_pay7 (Region0.patches W c ⟨n, hN⟩) (Region0.rows W c ⟨n, hN⟩) (ix2 r x)
            = k0_pay8 (Region0.patches W c ⟨n, hN⟩) (Region0.rows W c ⟨n, hN⟩) (ix2 r 0)) = (gaps W c r ⟨2000 * n + x.val, by omega⟩ = gaps W c r ⟨2000 * n + j.val, by omega⟩) := by
          intro x
          rw [hblock, hm, ← hj]
        simp only [hp]
        refine (fold_place (fun x : Fin 2000 => gaps W c r ⟨2000 * n + x.val, by omega⟩) (fun x => 2000 * n + x.val) j (fun x => by omega) fun x hx => ?_).trans ?_
        · have := h.place (q := ⟨2000 * n + x.val, by omega⟩) (by show 2000 * n + x.val < _; omega) (hx.trans (congrArg (gaps W c r) hj.symm))
          exact (congrArg Fin.val hj).symm.trans_le this
        · rw [hj]
      · rw [hm]
        by_cases h0 : n = 0
        · subst h0
          rw [show (Region0.state W c 0).1 (ix2 r 0) = ⊤ from init_min r]
          exact hfin κ
        · obtain ⟨κ0, hκ0⟩ := exists_first (fun k : Fin 100000 => k.val < 2000 * n) (gaps W c r) ⟨⟨0, by omega⟩, by show 0 < _; omega⟩
          rw [val n (by omega) κ0 hκ0]
          have hlt := hκ0.1
          rcases h.2 κ0 (by show κ0.val < _; omega) (fun e => g (e ▸ hlt)) with b | b
          · exact b
          · have := b.2
            rw [Fin.lt_def] at this
            omega

end Blocks

/-! ## The two indices -/

theorem neg_inf_word : Ideal.ofBits .f32 0xFF800000#32 = ⊥ := by simp [Ideal.ofBits, Ideal.ieee]

/-- A sum of words all but one of which are zero. -/
theorem fold_single {ι : Type} [Fintype ι] [DecidableEq ι] (f : ι → BitVec 32) (k : ι) (h : ∀ i, i ≠ k → f i = 0#32) :
    Finset.univ.fold IntOp.addi 0#32 f = f k := by
  have zero : ∀ s : Finset ι, k ∉ s → s.fold IntOp.addi 0#32 f = 0#32 := by
    intro s
    induction s using Finset.induction_on with
    | empty => intro _; exact Finset.fold_empty
    | insert i s hi ih =>
      intro hk
      rw [Finset.fold_insert hi, ih fun e => hk (Finset.mem_insert_of_mem e), h i fun e => hk (e ▸ Finset.mem_insert_self i s)]
      rfl
  rw [← Finset.insert_erase (Finset.mem_univ k), Finset.fold_insert (Finset.notMem_erase k _), zero _ (Finset.notMem_erase k _)]
  exact BitVec.add_zero _

theorem far_patch (x0 : Vec Ideal S784x384 .f32) (s : Vec Ideal S784x1 .f32) (ρ : Fin 784)
    (h : First (fun _ => True) (fun r => - k0_pay2 x0 s (ix2 r 0)) ρ) :
    extractAt ![0, 0, 0] (k0_pay3 x0 s) inpos_S1x1x1_p0_0_0 = BitVec.ofNat 32 ρ.val := by
  have hm : (Finset.univ : Finset (Fin 784 × Fin 1)).fold max (Ideal.ofBits .f32 0xFF800000#32) (fun x => k0_pay2 x0 s (ix2 x.1 0)) = k0_pay2 x0 s (ix2 ρ 0) := by
    rw [neg_inf_word]
    refine le_antisymm ((Finset.fold_max_le _).mpr ⟨bot_le, fun y _ => EReal.neg_le_neg_iff.mp (h.le (q := y.1) trivial)⟩)
      ((Finset.le_fold_max _).mpr (Or.inr ⟨(ρ, 0), Finset.mem_univ _, le_rfl⟩))
  unfold k0_pay3
  pointwise
  rw [hm]
  refine fold_place (fun x : Fin 784 × Fin 1 => k0_pay2 x0 s (ix2 x.1 0)) (fun x => x.1.val) (ρ, 0) (fun x => by have := x.1.isLt; omega) fun x hx => ?_
  exact h.place (q := x.1) trivial (congrArg (fun z : EReal => -z) hx)

theorem far_row (x0 : Vec Ideal S784x384 .f32) (s : Vec Ideal S784x1 .f32) (a : Vec Ideal S784x1 .i32) (ρ : Fin 784)
    (h : extractAt ![0, 0, 0] (k0_pay3 x0 s) inpos_S1x1x1_p0_0_0 = BitVec.ofNat 32 ρ.val) :
    extractAt ![0, 0, 0] (k0_pay4 x0 s a) inpos_S1x1x1_p0_0_0 = a (ix2 ρ 0) := by
  unfold k0_pay4
  rw [h]
  pointwise
  simp only [Places.select_words]
  refine (fold_single _ ((ρ, 0) : Fin 784 × Fin 1) fun x hx => if_neg fun e => hx ?_).trans (if_pos rfl)
  have e' := congrArg BitVec.toInt e
  rw [word_toInt (by have := x.1.isLt; omega), word_toInt (by omega)] at e'
  exact Prod.ext (Fin.ext (by exact_mod_cast e')) (Subsingleton.elim _ _)

end Cert.Proof.Near

end
-- ==== Proof.Rows.lean ====
/-
  Rows taken by an index: a nonnegative index is left as it is, and the slice that starts at it is that row.
-/
module

public import proofs.«01_k».proof.Proof.First
public import proofs.«01_k».proof.Proof.Places
public import proofs.«01_k».proof.Proof.Maps
public import Idealize.ShloMosaic.Lib.Routing.Ops

@[expose] public section

set_option maxRecDepth 16384

noncomputable section

namespace Cert.Proof.Rows

open Cert.Proof.First
open Idealize.ShloMosaic

/-! ## Slices -/

theorem slice_row {α : Type} {n : ℕ} (x : (⟨2, ![n, 384]⟩ : Shape).Idx → α) (start : Fin 2 → ℤ) (h : Shape.Slices ⟨2, ![n, 384]⟩ (fun _ => 0) ⟨2, ![1, 384]⟩)
    (k : Fin n) (h0 : start 0 = k.val) (h1 : start 1 = 0) (c : Fin 384) : Host.dynamicSlice ⟨2, ![1, 384]⟩ x start h (ix2 0 c) = x (ix2 k c) := by
  rw [Host.dynamicSlice_apply]
  refine congrArg x (funext fun a => ?_)
  have e0 : Host.clampedStart ⟨2, ![n, 384]⟩ ⟨2, ![1, 384]⟩ h.1 start 0 = k.val := Host.clampedStart_of_le h.1 start 0 k.val h0 k.isLt
  have e1 : Host.clampedStart ⟨2, ![n, 384]⟩ ⟨2, ![1, 384]⟩ h.1 start 1 = 0 := Host.clampedStart_of_le h.1 start 1 0 h1 (Nat.zero_add 384).le
  match a with
  | ⟨0, _⟩ => exact Fin.ext ((congrArg (· + 0) e0).trans (Nat.add_zero _))
  | ⟨1, _⟩ => exact Fin.ext ((congrArg (· + c.val) e1).trans (Nat.zero_add _))

theorem slice_one {α : Type} {n : ℕ} (x : (⟨1, ![n]⟩ : Shape).Idx → α) (start : Fin 1 → ℤ) (h : Shape.Slices ⟨1, ![n]⟩ (fun _ => 0) ⟨1, ![1]⟩)
    (k : Fin n) (h0 : start 0 = k.val) : Host.dynamicSlice ⟨1, ![1]⟩ x start h (ix1 0) = x (ix1 k) := by
  rw [Host.dynamicSlice_apply]
  refine congrArg x (funext fun a => ?_)
  have e0 : Host.clampedStart ⟨1, ![n]⟩ ⟨1, ![1]⟩ h.1 start 0 = k.val := Host.clampedStart_of_le h.1 start 0 k.val h0 k.isLt
  match a with
  | ⟨0, _⟩ => exact Fin.ext ((congrArg (· + 0) e0).trans (Nat.add_zero _))

/-! ## Indices -/

/-- An index that is not negative is left as it is. -/
theorem wrap_word (k : ℕ) (hk : k < 2 ^ 31) (n : BitVec 32) :
    Scalar.select (IntOp.cmpi .slt (BitVec.ofNat 32 k) 0#32) (IntOp.addi (BitVec.ofNat 32 k) n) (BitVec.ofNat 32 k) = BitVec.ofNat 32 k := by
  show Scalar.select (BitVec.ofBool (decide ((BitVec.ofNat 32 k).toInt < (0#32 : BitVec 32).toInt))) _ _ = _
  rw [word_toInt hk, decide_eq_false (by simp)]
  rfl

end Cert.Proof.Rows

/-! ## The reference's rows -/

namespace Cert.Proof.Picks

open Cert.ReferenceIdeal Cert.ReferenceIdeal.Facts₀ Cert.Proof.First
open Idealize.ShloMosaic

theorem wrapped_at (x n : IVec S_ 32) (k : ℕ) (hk : k < 2 ^ 31) (i : S_.Idx) (hx : x i = BitVec.ofNat 32 k) : Ref.wrapped x n i = BitVec.ofNat 32 k := by
  show Scalar.select (IntOp.cmpi .slt (x i) 0#32) (IntOp.addi (x i) (n i)) (x i) = _
  rw [hx]
  exact Rows.wrap_word k hk _

theorem column_zero (i : S_.Idx) : (Ref.column0 i).toInt = 0 := by
  show (Scalar.select (IntOp.cmpi .slt (0#32) 0#32) (IntOp.addi 0#32 384#32) 0#32 : BitVec 32).toInt = 0
  decide

theorem memoryRow_at (b : FVec Ideal ⟨2, ![100000, 384]⟩ .f32) (j : IVec S_ 32) (κ : Fin 100000) (hj : ∀ i, j i = BitVec.ofNat 32 κ.val) (k : Fin 384) :
    Ref.memoryRow (F := Ideal) b j (ix2 0 k) = b (ix2 κ k) := by
  have e := Rows.slice_row b (fun i => ((![Ref.wrapped j (constantI S_ 32 100000#32), Ref.column0] : Fin 2 → IVec S_ 32) i (Shape.Idx.first h_S_)).toInt)
    sliceFits_S100000x384_S1x384 κ (by
      show (Ref.wrapped j (constantI S_ 32 100000#32) _).toInt = _
      rw [wrapped_at j _ κ.val (by omega) _ (hj _)]; exact word_toInt (by omega)) (column_zero (Shape.Idx.first h_S_)) k
  rw [← e]
  unfold Ref.memoryRow
  generalize Host.dynamicSlice _ _ _ _ = z
  pointwise

theorem patchRow_at (a : FVec Ideal ⟨2, ![784, 384]⟩ .f32) (j : IVec S_ 32) (ρ : Fin 784) (hj : ∀ i, j i = BitVec.ofNat 32 ρ.val) (k : Fin 384) :
    Ref.patchRow (F := Ideal) a j (ix2 0 k) = a (ix2 ρ k) := by
  have e := Rows.slice_row a (fun i => ((![Ref.wrapped j (constantI S_ 32 784#32), Ref.column0] : Fin 2 → IVec S_ 32) i (Shape.Idx.first h_S_)).toInt)
    sliceFits_S784x384_S1x384 ρ (by
      show (Ref.wrapped j (constantI S_ 32 784#32) _).toInt = _
      rw [wrapped_at j _ ρ.val (by omega) _ (hj _)]; exact word_toInt (by omega)) (column_zero (Shape.Idx.first h_S_)) k
  rw [← e]
  unfold Ref.patchRow
  generalize Host.dynamicSlice _ _ _ _ = z
  pointwise

theorem starRow_at (n : IVec ⟨1, ![784]⟩ 32) (s : IVec S_ 32) (ρ : Fin 784) (hs : ∀ i, s i = BitVec.ofNat 32 ρ.val) (i : S_.Idx) :
    Ref.starRow n s i = n (ix1 ρ) := by
  have e := Rows.slice_one n (fun i => ((![Ref.wrapped s (constantI S_ 32 784#32)] : Fin 1 → IVec S_ 32) i (Shape.Idx.first h_S_)).toInt)
    sliceFits_S784_S1 ρ (by
      show (Ref.wrapped s (constantI S_ 32 784#32) _).toInt = _
      rw [wrapped_at s _ ρ.val (by omega) _ (hs _)]; exact word_toInt (by omega))
  rw [← e]
  unfold Ref.starRow
  generalize Host.dynamicSlice _ _ _ _ = z
  have hi : i = ix0 := funext fun a => a.elim0
  rw [hi]
  pointwise

theorem two_at (t : IVec S1x3 32) (p : Fin 2) : Ref.two t (ix1 p) = t (ix2 0 (⟨1 + p.val, by omega⟩ : Fin 3)) := by
  unfold Ref.two
  pointwise

/-- The row numbers the neighbours are taken at. -/
def picked (i : IVec S2 32) : IVec S2x1 32 :=
  broadcastInDim S2x1 ![0] bcast_S2_S2x1_0
    (select (cmpi .slt i (broadcastInDim S2 ![] bcast_S_S2 (constantI S_ 32 0#32)))
      (addi i (broadcastInDim S2 ![] bcast_S_S2 (constantI S_ 32 100000#32))) i)

theorem picked_at (i : IVec S2 32) (p : Fin 2) (κ : Fin 100000) (hi : i (ix1 p) = BitVec.ofNat 32 κ.val) : picked i (ix2 p 0) = BitVec.ofNat 32 κ.val := by
  unfold picked
  pointwise
  rw [hi]
  exact Rows.wrap_word κ.val (by omega) _

theorem neighbours_at (b : FVec Ideal ⟨2, ![100000, 384]⟩ .f32) (i : IVec S2 32) (p : Fin 2) (κ : Fin 100000) (hi : i (ix1 p) = BitVec.ofNat 32 κ.val) (k : Fin 384) :
    Ref.neighbours (F := Ideal) b i (ix2 p k) = b (ix2 κ k) := by
  have e : ∀ {n0 n1 : ℕ} (x : Fin n0) (y : Fin n1), (ix2 x y : (⟨2, ![n0, n1]⟩ : Shape).Idx) = ValueIdx.ix2 x y := fun x y => ValueIdx.eq_ix2 _
  have h := picked_at i p κ hi
  rw [e] at h
  rw [e, e]
  exact Routing.gather_row gather_S100000x384_S2x1_S2x384_1_0_n_n_0_1_1384 rfl rfl rfl rfl rfl b (picked i) p k κ h (by norm_num)

end Cert.Proof.Picks

end
-- ==== Proof.Chain.lean ====
/-
  The chosen rows through the kernel's run: what each region leaves and what the host lines between them take.
-/
module

public import proofs.«01_k».proof.Proof.Args
public import proofs.«01_k».proof.Proof.Rows

@[expose] public section

set_option maxRecDepth 16384

noncomputable section

namespace Cert.Proof.Run

open Cert.KernelIdeal Cert.KernelIdeal.Gen Cert.Proof.First
open Idealize.ShloMosaic Idealize.ShloMosaic.TcCoe

section Reads

variable {F : FTy → Type} [FloatOps F] [Named F]
variable (m : (ℓ : Loc nD τ sig) → Buf (Elt F) ℓ)

/-! ## The first region's indices -/

theorem flush_far : ∀ t : Fin cfg0.N, win0_3.flush t = true → t.val = 49 := (by decide +kernel : ∀ t : Fin grid0.N, _)
theorem flush_near : ∀ t : Fin cfg0.N, win0_4.flush t = true → t.val = 49 := (by decide +kernel : ∀ t : Fin grid0.N, _)

theorem U2_far (c : Dev nD) (hp : ∀ t, Region0.patches (U1 m) c t = U1 m c main_arg0) :
    U2 m c main_v0_1 = Region0.cell (F := F) (k0_pay3 (U1 m c main_arg0) (Region0.state (U1 m) c 50).1) := by
  refine (Pipeline.afterRegion_arr (Region0.dat (U1 m) c) _ launch0.win.arr_inj 3).trans ?_
  refine (Region0.dat (U1 m) c).arrAt_eq_of_covers 3 _ (by decide +kernel) fun t hf y => ?_
  have h49 : t.val + 1 = 50 := congrArg (· + 1) (flush_far t hf)
  blk_simp
  rw [Region0.after_3, h49, hp]

theorem U2_near (c : Dev nD) (hp : ∀ t, Region0.patches (U1 m) c t = U1 m c main_arg0) :
    U2 m c main_v0_2 = Region0.cell (F := F) (k0_pay4 (U1 m c main_arg0) (Region0.state (U1 m) c 50).1 (Region0.state (U1 m) c 50).2) := by
  refine (Pipeline.afterRegion_arr (Region0.dat (U1 m) c) _ launch0.win.arr_inj 4).trans ?_
  refine (Region0.dat (U1 m) c).arrAt_eq_of_covers 4 _ (by decide +kernel) fun t hf y => ?_
  have h49 : t.val + 1 = 50 := congrArg (· + 1) (flush_near t hf)
  blk_simp
  rw [Region0.after_4, h49, hp]

/-! ## The host lines -/

/-- The row of the memory the word names, a negative word counting from the end. -/
def slot (x : FVec F S100000x384 .f32) (v : IVec S1x1 32) : FVec F S1x384 .f32 :=
  Host.dynamicSlice S1x384 x (fun k => ((![select (cmpi .slt (shapeCast S_ v shapeCasts_S1x1_S_) (constantI S_ 32 0#32))
      (addi (shapeCast S_ v shapeCasts_S1x1_S_) (constantI S_ 32 100000#32)) (shapeCast S_ v shapeCasts_S1x1_S_), constantI S_ 32 0#32] : Fin 2 → IVec S_ 32) k
    (Shape.Idx.first h_S_)).toInt) sliceFits_S100000x384_S1x384

theorem U3_query (c : Dev nD) : U3 m c main_v5 = slot (U2 m c main_arg1) (U2 m c main_v0_2) := by
  unfold U3; after_reads_simp [StableHlo.unaryIndexed_result_read, StableHlo.indexContents_cons, StableHlo.indexContents_empty]; rfl
theorem U5_second (c : Dev nD) : U5 m c main_v11 = slot (U4 m c main_arg1) (U4 m c main_v6_0) := by
  unfold U5; after_reads_simp [StableHlo.unaryIndexed_result_read, StableHlo.indexContents_cons, StableHlo.indexContents_empty]; rfl
theorem U5_third (c : Dev nD) : U5 m c main_v16 = slot (U4 m c main_arg1) (U4 m c main_v6_1) := by
  unfold U5; after_reads_simp [StableHlo.unaryIndexed_result_read, StableHlo.indexContents_cons, StableHlo.indexContents_empty]; rfl
theorem U5_far (c : Dev nD) : U5 m c main_v0_1 = U2 m c main_v0_1 :=
  (U5_of m c main_v0_1 (by decide)).trans <| (U4_of m c main_v0_1 (by decide)).trans <| U3_of m c main_v0_1 (by decide)
theorem U2_arg1 (c : Dev nD) : U2 m c main_arg1 = m (c, main_arg1) := (U2_of m c main_arg1 (by decide)).trans (U1_arg1 m c)
theorem U3_arg1 (c : Dev nD) : U3 m c main_arg1 = m (c, main_arg1) := (U3_of m c main_arg1 (by decide)).trans (U2_arg1 m c)
theorem U4_arg1 (c : Dev nD) : U4 m c main_arg1 = m (c, main_arg1) := (U4_of m c main_arg1 (by decide)).trans (U3_arg1 m c)
theorem U5_arg0 (c : Dev nD) : U5 m c main_arg0 = m (c, main_arg0) :=
  (U5_of m c main_arg0 (by decide)).trans <| (U4_of m c main_arg0 (by decide)).trans <| (U3_of m c main_arg0 (by decide)).trans <|
    (U2_of m c main_arg0 (by decide)).trans (U1_arg0 m c)

/-! ## The second region's indices -/

/-- A one-by-one array has one place. -/
theorem one_place (a b : S1x1.Idx) : a = b := by
  funext k
  refine Fin.ext ?_
  have ha := (a k).isLt
  have hb := (b k).isLt
  have h1 : S1x1.size k = 1 := (by decide : ∀ k, S1x1.size k = 1) k
  omega

/-- What the second region leaves in its second word's array, given what every point writes there. -/
theorem U4_second_of (c : Dev nD) (V : (cfg1.win 2).block.Idx → Elt F (cfg1.win 2).elt) (h : ∀ t, (Region1.dat (U3 m) c).after 2 t = V) :
    U4 m c main_v6_0 = V := by
  refine (Pipeline.afterRegion_arr (Region1.dat (U3 m) c) _ launch1.win.arr_inj 2).trans ?_
  refine (Region1.dat (U3 m) c).arrAt_eq_of_covers 2 _ (by decide +kernel) fun t hf y => ?_
  rw [h]
  exact congrArg V (one_place _ _)

theorem U4_second (c : Dev nD) : U4 m c main_v6_0 = Region0.cell (F := F) (k1_pay5 (Region1.table (U3 m) c)) :=
  U4_second_of m c _ fun t => Region1.after_2 (U3 m) c t

/-- What the second region leaves in its third word's array, given what every point writes there. -/
theorem U4_third_of (c : Dev nD) (V : (cfg1.win 3).block.Idx → Elt F (cfg1.win 3).elt) (h : ∀ t, (Region1.dat (U3 m) c).after 3 t = V) :
    U4 m c main_v6_1 = V := by
  refine (Pipeline.afterRegion_arr (Region1.dat (U3 m) c) _ launch1.win.arr_inj 3).trans ?_
  refine (Region1.dat (U3 m) c).arrAt_eq_of_covers 3 _ (by decide +kernel) fun t hf y => ?_
  rw [h]
  exact congrArg V (one_place _ _)

theorem U4_third (c : Dev nD) : U4 m c main_v6_1 = Region0.cell (F := F) (k1_pay2 (k1_pay6 (Region1.table (U3 m) c))) :=
  U4_third_of m c _ fun t => Region1.after_3 (U3 m) c t

/-! ## The score -/

theorem index_rest : ∀ t : Fin cfg2.N, win2_1.index t = ![0, 0] ∧ win2_2.index t = ![0, 0] ∧ win2_3.index t = ![0, 0] ∧ win2_4.index t = ![0, 0] :=
  (by decide +kernel : ∀ t : Fin grid2.N, _)

theorem patch_block (W : Dev nD → Valuation τ sig (Elt F)) (c : Dev nD) (t : Fin cfg2.N) : Region2.blockAt W c 1 t = W c (Proc.devRef .tc main_arg0) := by
  funext i
  unfold Region2.blockAt
  blk_simp
  refine congrArg (W c (Proc.devRef .tc main_arg0)) ?_
  blk_ext [index_rest]

theorem second_block (W : Dev nD → Valuation τ sig (Elt F)) (c : Dev nD) (t : Fin cfg2.N) : Region2.blockAt W c 2 t = W c (Proc.devRef .tc main_v11) := by
  funext i
  unfold Region2.blockAt
  blk_simp
  refine congrArg (W c (Proc.devRef .tc main_v11)) ?_
  blk_ext [index_rest]

theorem third_block (W : Dev nD → Valuation τ sig (Elt F)) (c : Dev nD) (t : Fin cfg2.N) : Region2.blockAt W c 3 t = W c (Proc.devRef .tc main_v16) := by
  funext i
  unfold Region2.blockAt
  blk_simp
  refine congrArg (W c (Proc.devRef .tc main_v16)) ?_
  blk_ext [index_rest]

theorem far_block (W : Dev nD → Valuation τ sig (Elt F)) (c : Dev nD) (t : Fin cfg2.N) : Region2.blockAt W c 4 t = W c (Proc.devRef .tc main_v0_1) := by
  funext i
  unfold Region2.blockAt
  blk_simp
  refine congrArg (W c (Proc.devRef .tc main_v0_1)) ?_
  blk_ext [index_rest]

theorem U6_score (c : Dev nD) : U6 m c main_v18_0
    = Region2.score (F := F) (U5 m c main_v17) (U5 m c main_arg0) (U5 m c main_v11) (U5 m c main_v16) (U5 m c main_v0_1) := by
  refine (Pipeline.afterRegion_arr (Region2.dat (U5 m) c) _ launch2.win.arr_inj 6).trans ?_
  refine (Region2.dat (U5 m) c).arrAt_eq_of_covers 6 _ (by decide +kernel) fun t hf y => ?_
  blk_simp
  rw [Region2.after_6, grid_block, patch_block, second_block, third_block, far_block]

theorem U7_score (c : Dev nD) : U7 m c main_v19 = shapeCast S_ (U6 m c main_v18_0) shapeCasts_S1x1_S_ := by
  unfold U7; after_reads_simp; rfl

end Reads

/-! ## At the extended reals -/

open Near

theorem slot_at (x : FVec Ideal ⟨2, ![100000, 384]⟩ .f32) (v : IVec S1x1 32) (κ : Fin 100000) (hv : ∀ i, v i = BitVec.ofNat 32 κ.val) (k : Fin 384) :
    slot x v (ix2 0 k) = x (ix2 κ k) := by
  refine Rows.slice_row x _ _ κ ?_ ?_ k
  · show (Scalar.select (IntOp.cmpi .slt (v _) 0#32) (IntOp.addi (v _) 100000#32) (v _) : BitVec 32).toInt = _
    rw [hv, Rows.wrap_word κ.val (by omega)]
    exact word_toInt (by omega)
  · show (0#32 : BitVec 32).toInt = 0
    decide

end Cert.Proof.Run

end
-- ==== Proof.Table.lean ====
/-
  The second region's table of gaps to the star row, and the two rows it names.
-/
module

public import proofs.«01_k».proof.Proof.Args
public import proofs.«01_k».proof.Proof.Rows

@[expose] public section

set_option maxRecDepth 16384

noncomputable section

namespace Cert.Proof.Run

open Cert.KernelIdeal Cert.KernelIdeal.Gen Cert.Proof.First
open Idealize.ShloMosaic Idealize.ShloMosaic.TcCoe

open Near

/-! ## The table of the second region -/

section Table
variable (W : Dev nD → Valuation τ sig (Elt Ideal)) (c : Dev nD)

theorem index_query : ∀ t : Fin cfg1.N, win1_0.index t = ![0, 0] := (by decide +kernel : ∀ t : Fin grid1.N, _)
theorem index_rows1 : ∀ t : Fin cfg1.N, win1_1.index t = ![t.val, 0] := (by decide +kernel : ∀ t : Fin grid1.N, _)

theorem query_eq (t : Fin cfg1.N) : Region1.query W c t = W c (Proc.devRef .tc main_v5) := by
  funext i
  unfold Region1.query Region1.blockAt
  blk_simp
  refine congrArg (W c (Proc.devRef .tc main_v5)) ?_
  blk_ext [index_query]

theorem rows1_at (t : Fin cfg1.N) (j : Fin 4000) (k : Fin 384) (h : 4000 * t.val + j.val < 100000) :
    Region1.rows W c t (ix2 j k) = W c (Proc.devRef .tc main_arg1) (ix2 (⟨4000 * t.val + j.val, h⟩ : Fin 100000) k) := by
  unfold Region1.rows Region1.blockAt
  blk_simp
  refine congrArg (W c (Proc.devRef .tc main_arg1)) ?_
  blk_ext [index_rows1]

theorem gap_row (v : Vec Ideal S4000x384 .f32) (q : Vec Ideal S1x384 .f32) (j : Fin 4000) : k1_pay1 v q (ix2 0 j) = gap q v 0 j := by
  unfold k1_pay1; pointwise; rfl

theorem table_at (x : Fin 25 × Fin 4000) : Region1.table W c (ix2 x.1 x.2)
    = gap (n := 1) (m := 100000) (W c (Proc.devRef .tc main_v5)) (W c (Proc.devRef .tc main_arg1)) 0 (Places.flat x) := by
  have hx := (Places.flat x).isLt
  refine Eq.trans (b := k1_pay1 (Region1.rows W c (Region1.rowPoint x.1)) (Region1.query W c (Region1.rowPoint x.1)) (ix2 0 x.2)) ?_ ?_
  · unfold Region1.table
    rfl
  rw [gap_row, query_eq]
  unfold gap norm2 Near.inner
  simp only [rows1_at W c (Region1.rowPoint x.1) x.2 _ hx]
  rfl

theorem three_words (σ : Fin 3 → Fin 100000) (f : Fin 100000 → EReal)
    (hf : f = gap (n := 1) (m := 100000) (W c (Proc.devRef .tc main_v5)) (W c (Proc.devRef .tc main_arg1)) 0) (hfin : ∀ k, f k < ⊤)
    (h0 : First (fun _ => True) f (σ 0)) (h1 : First (fun q => q ≠ σ 0) f (σ 1)) (h2 : First (fun q => q ≠ σ 0 ∧ q ≠ σ 1) f (σ 2)) :
    extractAt ![0, 0, 0] (k1_pay5 (Region1.table W c)) inpos_S1x1x1_p0_0_0 = BitVec.ofNat 32 (σ 1).val
      ∧ extractAt ![0, 0, 0] (k1_pay2 (k1_pay6 (Region1.table W c))) inpos_S1x1x1_p0_0_0 = BitVec.ofNat 32 (σ 2).val := by
  have t0 : Places.Holds (Region1.table W c) (fun _ => True) f := fun x => ⟨fun _ => by rw [hf]; exact table_at W c x, fun h => absurd trivial h⟩
  have p0 := Places.place_first t0 h0 (hfin _)
  have t1 := Places.holds_cross t0 (σ 0)
  have p1 := Places.place_first t1 (κ := σ 1) (by simpa using h1) (hfin _)
  have t2 := Places.holds_cross t1 (σ 1)
  have p2 := Places.place_first t2 (κ := σ 2) (by simpa [and_comm] using h2) (hfin _)
  exact ⟨(Places.second_word _).trans (by rw [p0]; exact p1), (Places.third_word _).trans (by rw [p0, p1]; exact p2)⟩

end Table

end Cert.Proof.Run

end
-- ==== Proof.Picks.lean ====
/-
  What the reference picks: the nearest row of each patch, the worst patch, and the three rows nearest the query.
-/
module

public import proofs.«01_k».proof.Proof.First
public import proofs.«01_k».proof.Proof.Reference
public import Idealize.ShloMosaic.Lib.ValueIdx
public import Idealize.ShloMosaic.Lib.IdealHost
public import Idealize.ShloMosaic.Lib.Pointwise

@[expose] public section

set_option maxRecDepth 16384

noncomputable section

namespace Cert.Proof.Picks

open Cert.ReferenceIdeal Cert.ReferenceIdeal.Facts₀ Cert.Proof.First
open Idealize.ShloMosaic

/-! ## The comparisons -/

/-- Smaller value, or equal value and smaller index. -/
def Low (p q : EReal × BitVec 32) : Prop := p.1 < q.1 ∨ (p.1 = q.1 ∧ p.2.toInt ≤ q.2.toInt)
/-- Greater value, or equal value and smaller index. -/
def High (p q : EReal × BitVec 32) : Prop := q.1 < p.1 ∨ (p.1 = q.1 ∧ p.2.toInt ≤ q.2.toInt)

theorem low_anti (p q : EReal × BitVec 32) (h : Low p q) (g : Low q p) : p = q := by
  rcases h with h | h <;> rcases g with g | g
  · exact absurd g h.not_gt
  · exact absurd g.1 h.ne'
  · exact absurd h.1 g.ne'
  · exact Prod.ext h.1 (BitVec.toInt_inj.mp (le_antisymm h.2 g.2))

theorem high_anti (p q : EReal × BitVec 32) (h : High p q) (g : High q p) : p = q := by
  rcases h with h | h <;> rcases g with g | g
  · exact absurd g h.not_gt
  · exact absurd g.1 h.ne
  · exact absurd h.1 g.ne
  · exact Prod.ext h.1 (BitVec.toInt_inj.mp (le_antisymm h.2 g.2))

theorem low_step (p q : EReal × BitVec 32) :
    reducer_argmin_f32_i32 (F := Ideal) p q = if p.1 < q.1 ∨ (p.1 = q.1 ∧ p.2.toInt < q.2.toInt) then p else q := by
  obtain ⟨a, i⟩ := p
  obtain ⟨b, j⟩ := q
  unfold reducer_argmin_f32_i32
  dsimp only
  rw [show (FloatOps.cmpf (F := Ideal) (φ := .f32) .olt a b) = BitVec.ofBool (decide (a < b)) from rfl,
    show (FloatOps.cmpf (F := Ideal) (φ := .f32) .une a a) = BitVec.ofBool (decide (a ≠ a)) from rfl,
    show (FloatOps.cmpf (F := Ideal) (φ := .f32) .oeq a b) = BitVec.ofBool (decide (a = b)) from rfl,
    show IntOp.cmpi .slt i j = BitVec.ofBool (decide (i.toInt < j.toInt)) from rfl]
  rcases lt_trichotomy a b with h | h | h
  · simp [h, h.ne, IntOp.ori, IntOp.andi, Scalar.select]
  · by_cases g : i.toInt < j.toInt <;> simp [h, g, IntOp.ori, IntOp.andi, Scalar.select]
  · simp [h.not_gt, h.ne', IntOp.ori, IntOp.andi, Scalar.select]

theorem high_step (p q : EReal × BitVec 32) :
    reducer_argmax_f32_i32 (F := Ideal) p q = if q.1 < p.1 ∨ (p.1 = q.1 ∧ p.2.toInt < q.2.toInt) then p else q := by
  obtain ⟨a, i⟩ := p
  obtain ⟨b, j⟩ := q
  unfold reducer_argmax_f32_i32
  dsimp only
  rw [show (FloatOps.cmpf (F := Ideal) (φ := .f32) .ogt a b) = BitVec.ofBool (decide (b < a)) from rfl,
    show (FloatOps.cmpf (F := Ideal) (φ := .f32) .une a a) = BitVec.ofBool (decide (a ≠ a)) from rfl,
    show (FloatOps.cmpf (F := Ideal) (φ := .f32) .oeq a b) = BitVec.ofBool (decide (a = b)) from rfl,
    show IntOp.cmpi .slt i j = BitVec.ofBool (decide (i.toInt < j.toInt)) from rfl]
  rcases lt_trichotomy a b with h | h | h
  · simp [h.not_gt, h.ne, IntOp.ori, IntOp.andi, Scalar.select]
  · by_cases g : i.toInt < j.toInt <;> simp [h, g, IntOp.ori, IntOp.andi, Scalar.select]
  · simp [h, h.ne', IntOp.ori, IntOp.andi, Scalar.select]

theorem fold_low (l : List (EReal × BitVec 32)) (acc b : EReal × BitVec 32) (hb : ∀ q ∈ acc :: l, Low b q) (hm : b ∈ acc :: l) :
    l.foldl (reducer_argmin_f32_i32 (F := Ideal)) acc = b := by
  refine foldl_best Low _ low_anti (fun p q => ?_) (fun p q => ?_) l acc b hb hm
  · rw [low_step]; split <;> simp
  · rw [low_step]
    split
    · next h => exact ⟨Or.inr ⟨rfl, le_rfl⟩, h.imp id fun g => ⟨g.1, g.2.le⟩⟩
    · next h =>
      push Not at h
      refine ⟨?_, Or.inr ⟨rfl, le_rfl⟩⟩
      rcases h.1.lt_or_eq with g | g
      · exact Or.inl g
      · exact Or.inr ⟨g, h.2 g.symm⟩

theorem fold_high (l : List (EReal × BitVec 32)) (acc b : EReal × BitVec 32) (hb : ∀ q ∈ acc :: l, High b q) (hm : b ∈ acc :: l) :
    l.foldl (reducer_argmax_f32_i32 (F := Ideal)) acc = b := by
  refine foldl_best High _ high_anti (fun p q => ?_) (fun p q => ?_) l acc b hb hm
  · rw [high_step]; split <;> simp
  · rw [high_step]
    split
    · next h => exact ⟨Or.inr ⟨rfl, le_rfl⟩, h.imp id fun g => ⟨g.1, g.2.le⟩⟩
    · next h =>
      push Not at h
      refine ⟨?_, Or.inr ⟨rfl, le_rfl⟩⟩
      rcases h.1.lt_or_eq with g | g
      · exact Or.inl g
      · exact Or.inr ⟨g.symm, h.2 g⟩

/-! ## The picks -/

theorem inf_word : Ideal.ofBits .f32 0x7F800000#32 = ⊤ := by simp [Ideal.ofBits, Ideal.ieee]
theorem neg_inf_word : Ideal.ofBits .f32 0xFF800000#32 = ⊥ := by simp [Ideal.ofBits, Ideal.ieee]

theorem min_place {a b : ℕ} (hb : b < 2 ^ 31) (d : FVec Ideal ⟨2, ![a, b]⟩ .f32) (hr : Shape.ReducesTo ⟨2, ![a, b]⟩ [1] ⟨1, ![a]⟩) (hu : 0 < S_.numel)
    (r : Fin a) (κ : Fin b) (h : First (fun _ => True) (fun k => d (ix2 r k)) κ) (hf : d (ix2 r κ) < ⊤) :
    Host.argReduce (reducer_argmin_f32_i32 (F := Ideal)) d (iotaInDim ⟨2, ![a, b]⟩ 32 1) (constant S_ .f32 0x7F800000#32) (constantI S_ 32 0#32) hr hu (ix1 r)
      = ((d (ix2 r κ) : EReal), BitVec.ofNat 32 κ.val) := by
  rw [Ideal.argReduce_eq_reduce2, Host.reduce2_eq_foldl_fiber]
  refine fold_low _ _ _ (fun q hq => ?_) ?_
  · rcases List.mem_cons.mp hq with rfl | hq
    · exact Or.inl (hf.trans_eq inf_word.symm)
    · obtain ⟨n, hn, rfl⟩ := List.mem_map.mp hq
      have hd := (List.mem_filter.mp hn).2
      rw [decide_eq_true_eq] at hd
      clear hn hq
      generalize (⟨2, ![a, b]⟩ : Shape).rowMajor.symm n = i at hd ⊢
      obtain ⟨r', k, rfl⟩ : ∃ (r' : Fin a) (k : Fin b), i = ix2 r' k := ⟨i 0, i 1, eq_ix2 i⟩
      have e : r' = r :=
        Fin.ext ((Shape.ReducesTo.drop_apply_val_of_eq hr (ix2 r' k) 0 0 Nat.zero_lt_one rfl).symm.trans (congrArg Fin.val (congrFun hd 0)))
      rw [e]
      by_cases g : k = κ
      · rw [g]; exact Or.inr ⟨rfl, le_rfl⟩
      · rcases h.2 k trivial g with l | l
        · exact Or.inl l
        · refine Or.inr ⟨l.1, ?_⟩
          have hk : (BitVec.ofNat 32 k.val).toInt = k.val := word_toInt (by omega)
          have hκ : (BitVec.ofNat 32 κ.val).toInt = κ.val := word_toInt (by omega)
          have := l.2
          show (BitVec.ofNat 32 κ.val).toInt ≤ (BitVec.ofNat 32 k.val).toInt
          rw [hk, hκ]
          exact_mod_cast this.le
  · refine List.mem_cons_of_mem _ (List.mem_map.mpr ⟨(⟨2, ![a, b]⟩ : Shape).rowMajor (ix2 r κ), List.mem_filter.mpr ⟨List.mem_finRange _, ?_⟩, ?_⟩)
    · rw [decide_eq_true_eq, Equiv.symm_apply_apply]
      funext x
      obtain rfl : x = 0 := Subsingleton.elim _ _
      exact Fin.ext (Shape.ReducesTo.drop_apply_val_of_eq hr (ix2 r κ) 0 0 Nat.zero_lt_one rfl)
    · rw [Equiv.symm_apply_apply]; rfl

theorem max_place {a : ℕ} (ha : a < 2 ^ 31) (n : FVec Ideal ⟨1, ![a]⟩ .f32) (hr : Shape.ReducesTo ⟨1, ![a]⟩ [0] S_) (hu : 0 < S_.numel)
    (ρ : Fin a) (h : First (fun _ => True) (fun k => - n (ix1 k)) ρ) (hf : ⊥ < n (ix1 ρ)) (j : S_.Idx) :
    Host.argReduce (reducer_argmax_f32_i32 (F := Ideal)) n (iotaInDim ⟨1, ![a]⟩ 32 0) (constant S_ .f32 0xFF800000#32) (constantI S_ 32 0#32) hr hu j
      = ((n (ix1 ρ) : EReal), BitVec.ofNat 32 ρ.val) := by
  rw [Ideal.argReduce_eq_reduce2, Host.reduce2_eq_foldl_fiber]
  refine fold_high _ _ _ (fun q hq => ?_) ?_
  · rcases List.mem_cons.mp hq with rfl | hq
    · exact Or.inl (neg_inf_word.trans_lt hf)
    · obtain ⟨p, hn, rfl⟩ := List.mem_map.mp hq
      clear hn hq
      generalize (⟨1, ![a]⟩ : Shape).rowMajor.symm p = i
      obtain ⟨k, rfl⟩ : ∃ k : Fin a, i = ix1 k := ⟨i 0, eq_ix1 i⟩
      by_cases g : k = ρ
      · rw [g]; exact Or.inr ⟨rfl, le_rfl⟩
      · rcases h.2 k trivial g with l | l
        · exact Or.inl (EReal.neg_lt_neg_iff.mp l)
        · refine Or.inr ⟨neg_injective l.1, ?_⟩
          have hk : (BitVec.ofNat 32 k.val).toInt = k.val := word_toInt (by omega)
          have hρ : (BitVec.ofNat 32 ρ.val).toInt = ρ.val := word_toInt (by omega)
          have := l.2
          show (BitVec.ofNat 32 ρ.val).toInt ≤ (BitVec.ofNat 32 k.val).toInt
          rw [hk, hρ]
          exact_mod_cast this.le
  · refine List.mem_cons_of_mem _ (List.mem_map.mpr ⟨(⟨1, ![a]⟩ : Shape).rowMajor (ix1 ρ), List.mem_filter.mpr ⟨List.mem_finRange _, ?_⟩, ?_⟩)
    · rw [decide_eq_true_eq]
      funext x
      exact x.elim0
    · rw [Equiv.symm_apply_apply]; rfl

theorem top_place {b : ℕ} (hn : 3 ≤ b) (d : FVec Ideal ⟨2, ![1, b]⟩ .f32) (hs : Shape.Slices ⟨2, ![1, b]⟩ (fun _ => 0) ⟨2, ![1, 3]⟩) (σ : Fin 3 → Fin b)
    (h0 : First (fun _ => True) (fun k => d (ix2 0 k)) (σ 0)) (h1 : First (fun q => q ≠ σ 0) (fun k => d (ix2 0 k)) (σ 1))
    (h2 : First (fun q => q ≠ σ 0 ∧ q ≠ σ 1) (fun k => d (ix2 0 k)) (σ 2)) (i : Fin 3) :
    (Host.topK ⟨2, ![1, 3]⟩ 1 (FloatOps.cmpfTotal (F := Ideal) (φ := .f32) .gt) (Host.negf d) hs).2 (ix2 0 i) = BitVec.ofNat 32 (σ i).val := by
  rw [← sorted_three (fun k => d (ix2 0 k)) σ h0 h1 h2 hn i]
  unfold Host.topK Host.sort2
  dsimp only
  rw [dif_pos (show 1 < (⟨2, ![1, b]⟩ : Shape).rank from Nat.lt_succ_self 1)]
  simp only [extractStridedSlice]
  rw [dif_pos Nat.one_lt_two]
  generalize hp : (⟨0 + ((ix2 (0 : Fin 1) i : (⟨2, ![1, 3]⟩ : Shape).Idx) (Fin.cast _ _)).val, _⟩ : Fin _) = p
  have hp' : p = i.castLE hn := by rw [← hp]; exact Fin.ext (Nat.zero_add _)
  rw [hp']
  clear hp hp' p
  generalize (fun a : Fin (⟨2, ![1, b]⟩ : Shape).rank => (⟨0 + ((ix2 (0 : Fin 1) i : (⟨2, ![1, 3]⟩ : Shape).Idx) (Fin.cast _ a)).val, _⟩ : Fin _)) = j
  have al : ∀ k : Fin b, Shape.Idx.along (s := ⟨2, ![1, b]⟩) j ⟨1, Nat.lt_succ_self 1⟩ k = ix2 0 k := by
    intro k
    funext x
    fin_cases x
    · exact Subsingleton.elim (α := Fin 1) _ _
    · exact Function.update_self _ _ _
  have cm : ∀ x y : (⟨2, ![1, b]⟩ : Shape).Idx, (FloatOps.cmpfTotal (F := Ideal) (φ := .f32) .gt (Host.negf d x) (Host.negf d y) == 1#1) = decide (d x < d y) := by
    intro x y
    show (BitVec.ofBool (decide (-(d y : EReal) < -(d x : EReal))) == 1#1) = decide ((d x : EReal) < d y)
    rw [decide_eq_decide.mpr (EReal.neg_lt_neg_iff (a := d y) (b := d x))]
    cases decide ((d x : EReal) < d y) <;> rfl
  simp only [cm]
  refine (congrArg (fun x => iotaInDim (⟨2, ![1, b]⟩ : Shape) 32 ⟨1, Nat.lt_succ_self 1⟩ x) (al _)).trans ?_
  refine congrArg (fun B : Fin b → Fin b → Bool => BitVec.ofNat 32 (sortedFrom B (i.castLE hn)).val) (funext fun k => funext fun k' => ?_)
  exact congrArg₂ (fun p q : (⟨2, ![1, b]⟩ : Shape).Idx => decide ((d p : EReal) < d q)) (al k) (al k')

theorem nearestRow_def (d : FVec Ideal S784x100000 .f32) : Ref.nearestRow (F := Ideal) d = fun j =>
    (Host.argReduce reducer_argmin_f32_i32 d (iotaInDim S784x100000 32 1) (constant S_ .f32 0x7F800000#32) (constantI S_ 32 0#32)
      reducesTo_S784x100000_S784_d1 h_S_ j).2 := rfl

theorem worst_def (n : FVec Ideal S784 .f32) : Ref.worst (F := Ideal) n = fun j =>
    (Host.argReduce reducer_argmax_f32_i32 n (iotaInDim S784 32 0) (constant S_ .f32 0xFF800000#32) (constantI S_ 32 0#32)
      reducesTo_S784_S_d0 h_S_ j).2 := rfl

theorem nearestRow_at (d : FVec Ideal ⟨2, ![784, 100000]⟩ .f32) (r : Fin 784) (κ : Fin 100000)
    (h : First (fun _ => True) (fun k => d (ix2 r k)) κ) (hf : d (ix2 r κ) < ⊤) :
    Ref.nearestRow (F := Ideal) d (ix1 r) = BitVec.ofNat 32 κ.val := by
  have key : Host.argReduce (reducer_argmin_f32_i32 (F := Ideal)) d (iotaInDim S784x100000 32 1) (constant S_ .f32 0x7F800000#32) (constantI S_ 32 0#32)
      reducesTo_S784x100000_S784_d1 h_S_ (ix1 r) = ((d (ix2 r κ) : EReal), BitVec.ofNat 32 κ.val) :=
    min_place (a := 784) (b := 100000) (by norm_num) d reducesTo_S784x100000_S784_d1 h_S_ r κ h hf
  rw [nearestRow_def]
  beta_reduce
  rw [key]

theorem worst_at (n : FVec Ideal ⟨1, ![784]⟩ .f32) (ρ : Fin 784) (h : First (fun _ => True) (fun k => - n (ix1 k)) ρ) (hf : ⊥ < n (ix1 ρ)) (j : S_.Idx) :
    Ref.worst (F := Ideal) n j = BitVec.ofNat 32 ρ.val := by
  have key : Host.argReduce (reducer_argmax_f32_i32 (F := Ideal)) n (iotaInDim S784 32 0) (constant S_ .f32 0xFF800000#32) (constantI S_ 32 0#32)
      reducesTo_S784_S_d0 h_S_ j = ((n (ix1 ρ) : EReal), BitVec.ofNat 32 ρ.val) :=
    max_place (a := 784) (by norm_num) n reducesTo_S784_S_d0 h_S_ ρ h hf j
  rw [worst_def]
  beta_reduce
  rw [key]

theorem three_at (d : FVec Ideal ⟨2, ![1, 100000]⟩ .f32) (σ : Fin 3 → Fin 100000)
    (h0 : First (fun _ => True) (fun k => d (ix2 0 k)) (σ 0)) (h1 : First (fun q => q ≠ σ 0) (fun k => d (ix2 0 k)) (σ 1))
    (h2 : First (fun q => q ≠ σ 0 ∧ q ≠ σ 1) (fun k => d (ix2 0 k)) (σ 2)) (i : Fin 3) :
    Ref.three (F := Ideal) d (ix2 0 i) = BitVec.ofNat 32 (σ i).val := by
  unfold Ref.three
  exact top_place (b := 100000) (by norm_num) d sliceFits_S1x100000_S1x3 σ h0 h1 h2 i

end Cert.Proof.Picks

end
-- ==== Proof.Order.lean ====
/-
  Where no square falls under the clamp, the clamped distances are ordered as the squares are.
-/
module

public import proofs.«01_k».proof.Proof.First
public import proofs.«01_k».proof.Proof.Dist

@[expose] public section

noncomputable section

namespace Cert.Proof.Order

open Idealize.ShloMosaic Near Run

/-- A value that is a real number. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) {f : ι → EReal} (h : ∀ i, IsReal (f i)) : IsReal (∑ i ∈ s, f i) :=
  Finset.sum_induction f IsReal (fun _ _ => IsReal.add) ⟨0, rfl⟩ fun i _ => h i
theorem IsReal.lt_top {x : EReal} : IsReal x → x < ⊤ := by rintro ⟨a, rfl⟩; exact EReal.coe_lt_top a
theorem IsReal.bot_lt {x : EReal} : IsReal x → ⊥ < x := by rintro ⟨a, rfl⟩; exact EReal.bot_lt_coe a

/-- An absolute value below infinity is that of a real number. -/
theorem isReal_of_abs {x : EReal} (h : max x (-x) < ⊤) : IsReal x := by
  induction x using EReal.rec with
  | bot => simp at h
  | top => simp at h
  | coe a => exact ⟨a, rfl⟩

/-- The clamp is a positive number. -/
theorem clamp_pos : ∃ e : ℝ, 0 < e ∧ Ideal.ofBits .f32 0x2B8CBCCC#32 = (e : EReal) := by
  refine ⟨_, ?_, by simp [Ideal.ofBits, Ideal.ieee, -EReal.coe_mul]; rfl⟩
  positivity

theorem two_real : IsReal (Ideal.ofBits .f32 0x40000000#32) := ⟨_, by simp [Ideal.ofBits, Ideal.ieee, -EReal.coe_mul]; rfl⟩

section Parts
variable {n m : ℕ} {x : FVec Ideal ⟨2, ![n, 384]⟩ .f32} {y : FVec Ideal ⟨2, ![m, 384]⟩ .f32}

theorem norm2_real {k : Fin n} (hx : ∀ c, IsReal (x (ix2 k c))) : IsReal (norm2 x k) := IsReal.sum _ fun _ => (hx _).mul (hx _)
theorem gap_real {r : Fin n} (hx : ∀ c, IsReal (x (ix2 r c))) (hy : ∀ i, IsReal (y i)) (k : Fin m) : IsReal (gap x y r k) :=
  (norm2_real fun _ => hy _).sub (two_real.mul (IsReal.sum _ fun _ => (hx _).mul (hy _)))
end Parts

/-- A square that is zero or above the clamp. -/
def Free (x : EReal) : Prop := x = 0 ∨ Ideal.ofBits .f32 0x2B8CBCCC#32 < x

theorem length_lt {p g h : EReal} (hp : IsReal p) (hg : IsReal g) (hh : IsReal h) (fg : Free (g + p)) (fh : Free (h + p)) :
    g < h ↔ length p g < length p h := by
  refine ⟨fun e => ?_, fun e => ?_⟩
  · obtain ⟨c, hc, ec⟩ := clamp_pos
    obtain ⟨p, rfl⟩ := hp
    obtain ⟨g, rfl⟩ := hg
    obtain ⟨h, rfl⟩ := hh
    unfold Free at fg fh
    unfold length
    rw [ec] at fg fh ⊢
    rw [← EReal.coe_add] at fg fh ⊢
    rw [← EReal.coe_add]
    have e' : g < h := by exact_mod_cast e
    have fg' : g + p = 0 ∨ c < g + p := by exact_mod_cast fg
    have fh' : h + p = 0 ∨ c < h + p := by exact_mod_cast fh
    have m1 : max ((g + p : ℝ) : EReal) (c : EReal) = ((max (g + p) c : ℝ) : EReal) := by norm_cast
    have m2 : max ((h + p : ℝ) : EReal) (c : EReal) = ((max (h + p) c : ℝ) : EReal) := by norm_cast
    rw [m1, m2]
    have n1 : 0 ≤ max (g + p) c := le_max_of_le_right hc.le
    have n2 : 0 ≤ max (h + p) c := le_max_of_le_right hc.le
    have lt : max (g + p) c < max (h + p) c := by
      rcases fg' with a | a <;> rcases fh' with b | b
      · linarith
      · rw [max_eq_right (by linarith), max_eq_left b.le]; exact b
      · linarith
      · rw [max_eq_left a.le, max_eq_left b.le]; linarith
    show (if max (g + p) c < 0 then (⊥ : EReal) else (Real.sqrt (max (g + p) c) : EReal)) < (if max (h + p) c < 0 then (⊥ : EReal) else (Real.sqrt (max (h + p) c) : EReal))
    rw [if_neg (not_lt.mpr n1), if_neg (not_lt.mpr n2)]
    exact EReal.coe_lt_coe_iff.mpr (Real.sqrt_lt_sqrt n1 lt)
  · by_contra hn
    exact absurd (length_mono p (not_lt.mp hn)) (not_le.mpr e)

theorem length_real {p g : EReal} (hp : IsReal p) (hg : IsReal g) : IsReal (length p g) := by
  obtain ⟨c, hc, ec⟩ := clamp_pos
  obtain ⟨p, rfl⟩ := hp
  obtain ⟨g, rfl⟩ := hg
  unfold length
  rw [ec, ← EReal.coe_add]
  have m1 : max ((g + p : ℝ) : EReal) (c : EReal) = ((max (g + p) c : ℝ) : EReal) := by norm_cast
  rw [m1]
  have n1 : 0 ≤ max (g + p) c := le_max_of_le_right hc.le
  show IsReal (if max (g + p) c < 0 then (⊥ : EReal) else (Real.sqrt (max (g + p) c) : EReal))
  rw [if_neg (not_lt.mpr n1)]
  exact ⟨_, rfl⟩

/-- A clamped distance is never minus infinity. -/
theorem bot_lt_length (p g : EReal) : ⊥ < length p g := by
  obtain ⟨c, hc, ec⟩ := clamp_pos
  unfold length
  rw [ec]
  refine lt_of_lt_of_le ?_ (sqrt_mono (le_max_right (g + p) (c : EReal)))
  show ⊥ < (if c < 0 then (⊥ : EReal) else (Real.sqrt c : EReal))
  rw [if_neg (not_lt.mpr hc.le)]
  exact EReal.bot_lt_coe _

/-- The square of a difference with an infinite value is infinite. -/
theorem square_top {x : EReal} (hx : ¬ IsReal x) (y : EReal) : (x - y) * (x - y) = ⊤ := by
  induction x using EReal.rec with
  | bot => rw [EReal.bot_sub]; rfl
  | coe a => exact absurd ⟨a, rfl⟩ hx
  | top =>
    induction y using EReal.rec with
    | bot => rfl
    | coe b => rw [EReal.top_sub_coe]; rfl
    | top => rfl

theorem square_nonneg (x : EReal) : 0 ≤ x * x := by
  induction x using EReal.rec with
  | bot => exact le_top
  | top => exact le_top
  | coe a => rw [← EReal.coe_mul]; exact_mod_cast mul_self_nonneg a

/-! ## The reference's row distances -/

theorem rowSquares_at (q : FVec Ideal ⟨2, ![1, 384]⟩ .f32) (b : FVec Ideal ⟨2, ![100000, 384]⟩ .f32) (k : Fin 100000) :
    Ref.rowSquares (F := Ideal) q b (ix2 0 k) = gap q b 0 k + norm2 q 0 := by
  unfold Ref.rowSquares
  pointwise
  show norm2 q 0 + norm2 b k - Ideal.ofBits .f32 0x40000000#32 * Near.inner q b 0 k = _
  unfold gap
  rw [sub_eq_add_neg, sub_eq_add_neg, add_assoc, add_comm (norm2 q 0)]

theorem rowDistance_at (q : FVec Ideal ⟨2, ![1, 384]⟩ .f32) (b : FVec Ideal ⟨2, ![100000, 384]⟩ .f32) (k : Fin 100000) :
    Ref.rowDistances (F := Ideal) q b (ix2 0 k) = length (norm2 q 0) (gap q b 0 k) := by
  unfold length
  rw [← rowSquares_at]
  unfold Ref.rowDistances
  generalize Ref.rowSquares (F := Ideal) q b = s
  pointwise

end Cert.Proof.Order

end
-- ==== Proof.Clear.lean ====
/-
  The precondition read back: a real memory, and no square between zero and the clamp.
-/
module

public import proofs.«01_k».proof.Proof.Order
public import proofs.«01_k».proof.Proof.Shapes
public import Idealize.ShloMosaic.Lib.ReduceAll

@[expose] public section

set_option maxRecDepth 16384

noncomputable section

namespace Cert.Proof.Clear

open Idealize.ShloMosaic Order

local instance one_result : Subsingleton (Shape.Idx ⟨0, ![]⟩) := ⟨fun _ _ => funext fun k => k.elim0⟩

theorem real_of_word {x : EReal} (h : FloatOps.cmpf (F := Ideal) (φ := .f32) .olt (max x (-x)) (Ideal.ofBits .f32 0x7F800000#32) = 1#1) : IsReal x := by
  refine isReal_of_abs ?_
  have e : Ideal.ofBits .f32 0x7F800000#32 = (⊤ : EReal) := by simp [Ideal.ofBits, Ideal.ieee]
  rw [e] at h
  have h' : BitVec.ofBool (decide (max x (-x) < (⊤ : EReal))) = 1#1 := h
  by_contra hn
  rw [decide_eq_false hn] at h'
  exact absurd h' (by decide)

theorem free_of_word {x : EReal} (h : IntOp.ori (FloatOps.cmpf (F := Ideal) (φ := .f32) .oeq x (Ideal.ofBits .f32 0x00000000#32))
    (FloatOps.cmpf (F := Ideal) (φ := .f32) .ogt x (Ideal.ofBits .f32 0x2B8CBCCC#32)) = 1#1) : Free x := by
  have z : Ideal.ofBits .f32 0x00000000#32 = (0 : EReal) := by simp [Ideal.ofBits, Ideal.ieee]
  rw [z] at h
  rcases IntOp.ori_eq_one.1 h with h | h
  · have h' : BitVec.ofBool (decide (x = (0 : EReal))) = 1#1 := h
    refine Or.inl ?_
    by_contra hn
    rw [decide_eq_false hn] at h'
    exact absurd h' (by decide)
  · have h' : BitVec.ofBool (decide (Ideal.ofBits .f32 0x2B8CBCCC#32 < x)) = 1#1 := h
    refine Or.inr ?_
    by_contra hn
    rw [decide_eq_false hn] at h'
    exact absurd h' (by decide)

section Parts
variable {F : FTy → Type} [FloatOps F]

open Cert.Pre_clear_of_clamp in
theorem row_word (d : FVec F S784x100000 .f32) : fn_argmin d = Ref.nearestRow d := rfl

open Cert.Pre_clear_of_clamp in
theorem far_word (n : FVec F S784 .f32) : fn_argmax n = Ref.worst n := rfl

open Cert.Pre_clear_of_clamp in
theorem first_part (a : FVec F S784x384 .f32) (b : FVec F S100000x384 .f32) :
    fn a b = fn_part1 a b (Ref.nearestRow (Ref.distances a b)) (Ref.nearest (Ref.distances a b)) := by
  rw [← row_word]
  rfl

open Cert.Pre_clear_of_clamp in
theorem second_part (a : FVec F S784x384 .f32) (b : FVec F S100000x384 .f32) (k : IVec S784 32) (n : FVec F S784 .f32) :
    fn_part1 a b k n = fn_part2 b (Ref.patchRow a (Ref.worst n)) (Ref.starRow k (Ref.worst n)) := by
  rw [← far_word]
  rfl

open Cert.Pre_clear_of_clamp Cert.Pre_clear_of_clamp.Facts in
theorem parts (a : FVec F S784x384 .f32) (b : FVec F S100000x384 .f32) (i : S_.Idx) (h : fn a b i = 1#1) :
    (∀ j, FloatOps.cmpf .olt (Host.absf b j) (FloatOps.ofBits .f32 0x7F800000#32) = 1#1)
    ∧ (∀ j, IntOp.ori (FloatOps.cmpf .oeq (Ref.rowSquares (Ref.patchRow a (Ref.worst (Ref.nearest (Ref.distances a b)))) b j) (FloatOps.ofBits .f32 0x00000000#32))
        (FloatOps.cmpf .ogt (Ref.rowSquares (Ref.patchRow a (Ref.worst (Ref.nearest (Ref.distances a b)))) b j) (FloatOps.ofBits .f32 0x2B8CBCCC#32)) = 1#1)
    ∧ ∀ j, IntOp.ori (FloatOps.cmpf .oeq (Ref.rowSquares (Ref.star b (Ref.distances a b)) b j) (FloatOps.ofBits .f32 0x00000000#32))
        (FloatOps.cmpf .ogt (Ref.rowSquares (Ref.star b (Ref.distances a b)) b j) (FloatOps.ofBits .f32 0x2B8CBCCC#32)) = 1#1 := by
  rw [first_part, second_part] at h
  have e : Ref.star b (Ref.distances a b) = Ref.memoryRow b (Ref.starRow (Ref.nearestRow (Ref.distances a b)) (Ref.worst (Ref.nearest (Ref.distances a b)))) := rfl
  rw [e]
  generalize Ref.starRow (Ref.nearestRow (Ref.distances a b)) (Ref.worst (Ref.nearest (Ref.distances a b))) = s at h ⊢
  generalize Ref.patchRow a (Ref.worst (Ref.nearest (Ref.distances a b))) = p at h ⊢
  unfold fn_part2 fn_part3 fn_part4 fn_part5 at h
  dsimp only at h
  obtain ⟨h, h3⟩ := IntOp.andi_eq_one.1 h
  obtain ⟨h1, h2⟩ := IntOp.andi_eq_one.1 h
  exact ⟨fun j => Host.reduce_andi_all _ _ _ _ _ h1 j, fun j => Host.reduce_andi_all _ _ _ _ _ h2 j, fun j => Host.reduce_andi_all _ _ _ _ _ h3 j⟩

end Parts

/-- What the precondition says of the arguments. -/
theorem clear (a : FVec Ideal ⟨2, ![784, 384]⟩ .f32) (b : FVec Ideal ⟨2, ![100000, 384]⟩ .f32) (h : Cert.Pre_clear_of_clamp.fn (F := Ideal) a b = fun _ => 1#1) :
    (∀ i, IsReal (b i))
    ∧ (∀ k, Free (Ref.rowSquares (F := Ideal) (Ref.patchRow (F := Ideal) a (Ref.worst (F := Ideal) (Ref.nearest (F := Ideal) (Ref.distances (F := Ideal) a b)))) b (ix2 0 k)))
    ∧ ∀ k, Free (Ref.rowSquares (F := Ideal) (Ref.star b (Ref.distances (F := Ideal) a b)) b (ix2 0 k)) := by
  obtain ⟨h1, h2, h3⟩ := parts a b (fun k => k.elim0) (congrFun h _)
  exact ⟨fun i => real_of_word (h1 i), fun k => free_of_word (h2 (ix2 0 k)), fun k => free_of_word (h3 (ix2 0 k))⟩

end Cert.Proof.Clear

end
-- ==== Proof.Value.lean ====
/-
  The score of the third region, read as the reference's.
-/
module

public import proofs.«01_k».proof.Proof.Maps
public import proofs.«01_k».proof.Proof.Places
public import proofs.«01_k».proof.Proof.Order

@[expose] public section

set_option maxRecDepth 16384

noncomputable section

namespace Cert.Proof.Value

open Cert.KernelIdeal Cert.KernelIdeal.Gen
open Idealize.ShloMosaic

/-- The named constant is the reference's root of 384. -/
theorem nrm_root : (Named.named κ "nrm" 0x419CC471#32 : Ideal .f32) = Ideal.sqrt (Ideal.ofBits .f32 0x43C00000#32) := by
  have e : Ideal.ofBits .f32 0x43C00000#32 = ((384 : ℝ) : EReal) := by simp [Ideal.ofBits, Ideal.ieee, -EReal.coe_mul]; norm_num
  rw [e]
  show ((Real.sqrt 384 : ℝ) : EReal) = if (384 : ℝ) < 0 then (⊥ : EReal) else (Real.sqrt 384 : EReal)
  rw [if_neg (by norm_num)]

/-- Where a grid position lies among the patches. -/
def gridPlace (h w : Fin 28) : Fin 784 := ⟨h.val * 28 + w.val, by omega⟩

section Parts
variable (x0 : Vec Ideal S28x28 .f32) (n : FVec Ideal ⟨1, ![784]⟩ .f32)
  (hx : ∀ h w : Fin 28, x0 (ix2 h w) = n (ix1 (gridPlace h w)))

include hx in
theorem top_eq (i : (⟨0, ![]⟩ : Shape).Idx) : Ref.top (F := Ideal) n i = k2_pay4 x0 := by
  have e1 : Ref.top (F := Ideal) n i = (Finset.univ : Finset (Fin 784)).fold max (Ideal.ofBits .f32 0xFF800000#32) (fun k => n (ix1 k)) := by
    unfold Ref.top; pointwise
  have e2 : k2_pay4 x0 = (Finset.univ : Finset (Fin 28 × Fin 28)).fold max (Ideal.ofBits .f32 0xFF800000#32) (fun x => x0 (ix2 x.1 x.2)) := by
    unfold k2_pay4 k2_pay3; pointwise
  rw [e1, e2]
  refine eq_of_forall_ge_iff fun c => ?_
  rw [Finset.fold_max_le, Finset.fold_max_le]
  refine and_congr Iff.rfl ⟨fun h x _ => ?_, fun h k _ => ?_⟩
  · rw [hx]; exact h _ (Finset.mem_univ _)
  · have := h (⟨k.val / 28, by omega⟩, ⟨k.val % 28, by omega⟩) (Finset.mem_univ _)
    rw [hx] at this
    have ek : gridPlace ⟨k.val / 28, by omega⟩ ⟨k.val % 28, by omega⟩ = k := Fin.ext (Nat.div_add_mod' _ _)
    rwa [ek] at this

end Parts

/-- The sum that picks one row of the patches. -/
theorem picked_patch (a : Vec Ideal S784x384 .f32) (ρ : Fin 784) (k : Fin 384) :
    (∑ r : Fin 784, Scalar.select (IntOp.cmpi .eq (BitVec.ofNat 32 r.val) (BitVec.ofNat 32 ρ.val)) (a (ix2 r k)) (0 : EReal)) = a (ix2 ρ k) := by
  rw [Finset.sum_eq_single ρ]
  · rw [Places.select_words, if_pos rfl]
  · intro r _ hr
    rw [Places.select_words, if_neg]
    intro e
    have := congrArg BitVec.toNat e
    rw [BitVec.toNat_ofNat, BitVec.toNat_ofNat, Nat.mod_eq_of_lt (by omega), Nat.mod_eq_of_lt (by omega)] at this
    exact hr (Fin.ext this)
  · exact fun h => absurd (Finset.mem_univ _) h

theorem weigh_at (s : FVec Ideal ⟨0, ![]⟩ .f32) (l : FVec Ideal ⟨1, ![2]⟩ .f32) (i : (⟨0, ![]⟩ : Shape).Idx) :
    Ref.weigh (F := Ideal) s l i = (1 - Ideal.div (Ideal.exp (Ideal.div (s i) (Ideal.sqrt (Ideal.ofBits .f32 0x43C00000#32))))
      (∑ x : Fin 2, Ideal.exp (Ideal.div (l (ix1 x)) (Ideal.sqrt (Ideal.ofBits .f32 0x43C00000#32))))) * s i := by
  unfold Ref.weigh Ref.root
  pointwise

/-- The length of the difference of two rows. -/
def far (p q : Fin 384 → EReal) : EReal := Ideal.sqrt (∑ k : Fin 384, (p k - q k) * (p k - q k))

/-- From a row with an infinite coordinate everything is infinitely far. -/
theorem far_top {p : Fin 384 → EReal} {k : Fin 384} (hk : ¬ Order.IsReal (p k)) (q : Fin 384 → EReal) : far p q = ⊤ := by
  have h : (p k - q k) * (p k - q k) ≤ ∑ k : Fin 384, (p k - q k) * (p k - q k) :=
    Finset.single_le_sum (f := fun k => (p k - q k) * (p k - q k)) (fun _ _ => Order.square_nonneg _) (Finset.mem_univ k)
  rw [Order.square_top hk, top_le_iff] at h
  unfold far
  rw [h]
  rfl

theorem lengths_at (p : FVec Ideal ⟨2, ![1, 384]⟩ .f32) (q : FVec Ideal ⟨2, ![2, 384]⟩ .f32) (x : Fin 2) :
    Ref.lengths (F := Ideal) p q (ix1 x) = far (fun k => p (ix2 0 k)) (fun k => q (ix2 x k)) := by
  unfold Ref.lengths
  pointwise
  rfl

theorem pay6_at (a : Vec Ideal S784x384 .f32) (ρ : Fin 784) (q1 q2 : Vec Ideal S1x384 .f32) :
    k2_pay6 a (BitVec.ofNat 32 ρ.val) q1 q2
      = Ideal.exp (Ideal.div (far (fun k => a (ix2 ρ k)) (fun k => q1 (ix2 0 k))) (Ideal.sqrt (Ideal.ofBits .f32 0x43C00000#32)))
        + Ideal.exp (Ideal.div (far (fun k => a (ix2 ρ k)) (fun k => q2 (ix2 0 k))) (Ideal.sqrt (Ideal.ofBits .f32 0x43C00000#32))) := by
  unfold k2_pay6
  pointwise
  simp only [Finset.univ_unique, Finset.sum_singleton, nrm_root]
  have e := funext (picked_patch a ρ)
  show (fun s : Fin 384 → EReal => Ideal.exp (Ideal.div (far s (fun k => q1 (ix2 0 k))) (Ideal.sqrt (Ideal.ofBits .f32 0x43C00000#32)))
      + Ideal.exp (Ideal.div (far s (fun k => q2 (ix2 0 k))) (Ideal.sqrt (Ideal.ofBits .f32 0x43C00000#32))))
    (fun k => ∑ r : Fin 784, Scalar.select (IntOp.cmpi .eq (BitVec.ofNat 32 r.val) (BitVec.ofNat 32 ρ.val)) (a (ix2 r k)) (0 : EReal)) = _
  rw [e]

theorem pay5_at (x0 : Vec Ideal S28x28 .f32) : k2_pay5 x0 = Ideal.exp (Ideal.div (k2_pay4 x0) (Ideal.sqrt (Ideal.ofBits .f32 0x43C00000#32))) := by
  unfold k2_pay5
  rw [← nrm_root]
  rfl

theorem pay1_at (x y z : Ideal .f32) : k2_pay1 (F := Ideal) x y z = (1 - Ideal.div y z) * x := by
  unfold k2_pay1
  pointwise

theorem score_value (x0 : Vec Ideal S28x28 .f32) (n : FVec Ideal ⟨1, ![784]⟩ .f32)
    (hx : ∀ h w : Fin 28, x0 (ix2 h w) = n (ix1 (gridPlace h w)))
    (a : Vec Ideal S784x384 .f32) (ρ : Fin 784) (q1 q2 : Vec Ideal S1x384 .f32) (p : FVec Ideal ⟨2, ![1, 384]⟩ .f32) (q : FVec Ideal ⟨2, ![2, 384]⟩ .f32)
    (hp : ∀ k, p (ix2 0 k) = a (ix2 ρ k))
    (h1 : far (fun k => a (ix2 ρ k)) (fun k => q1 (ix2 0 k)) = far (fun k => a (ix2 ρ k)) (fun k => q (ix2 0 k)))
    (h2 : far (fun k => a (ix2 ρ k)) (fun k => q2 (ix2 0 k)) = far (fun k => a (ix2 ρ k)) (fun k => q (ix2 1 k))) (i : (⟨0, ![]⟩ : Shape).Idx) :
    k2_pay1 (k2_pay4 x0) (k2_pay5 x0) (k2_pay6 a (BitVec.ofNat 32 ρ.val) q1 q2) = Ref.weigh (F := Ideal) (Ref.top (F := Ideal) n) (Ref.lengths (F := Ideal) p q) i := by
  rw [weigh_at, pay1_at, pay5_at, pay6_at, top_eq x0 n hx, Fin.sum_univ_two, lengths_at, lengths_at]
  simp only [hp, h1, h2]

end Cert.Proof.Value

end
-- ==== Proof.Score.lean ====
/-
  The first result: under the precondition kernel and reference choose the same patch and the same rows, and leave the same score.
-/
module

public import proofs.«01_k».proof.Proof.Chain
public import proofs.«01_k».proof.Proof.Table
public import proofs.«01_k».proof.Proof.Picks
public import proofs.«01_k».proof.Proof.Clear
public import proofs.«01_k».proof.Proof.Value
public import proofs.«01_k».proof.Proof.Segm

@[expose] public section

set_option maxRecDepth 16384

noncomputable section

namespace Cert.Proof.Run

open Cert.KernelIdeal Cert.KernelIdeal.Gen Cert.Proof.First
open Idealize.ShloMosaic Idealize.ShloMosaic.TcCoe Near Order

section Choice
variable (m : (ℓ : Loc nD τ sig) → Buf (Elt Ideal) ℓ) (c : Dev nD)

/-- The reference's distances, -/
abbrev dists : FVec Ideal ⟨2, ![784, 100000]⟩ .f32 := Ref.distances (F := Ideal) (A m c) (B m c)
/-- the least of each patch, -/
abbrev nears : FVec Ideal ⟨1, ![784]⟩ .f32 := Ref.nearest (F := Ideal) (dists m c)
/-- and the star row. -/
abbrev starred : FVec Ideal ⟨2, ![1, 384]⟩ .f32 := Ref.star (F := Ideal) (B m c) (dists m c)

theorem dists_at (r : Fin 784) (k : Fin 100000) : dists m c (ix2 r k) = length (norm2 (A m c) r) (gap (A m c) (B m c) r k) := distance_at _ _ r k

/-- A place of a one-row array is a column. -/
theorem row_place (i : (⟨2, ![1, 384]⟩ : Shape).Idx) : ∃ k : Fin 384, i = ix2 0 k := by
  obtain ⟨p, k, rfl⟩ : ∃ (p : Fin 1) (k : Fin 384), i = ix2 p k := ⟨_, _, eq_ix2 i⟩
  obtain rfl : p = 0 := Subsingleton.elim _ _
  exact ⟨k, rfl⟩

theorem gaps_eq (r : Fin 784) : gaps (U1 m) c r = gap (A m c) (B m c) r := by
  show gap (n := 784) (m := 100000) (U1 m c main_arg0) (U1 m c main_arg1) r = _
  rw [U1_arg0 m c, U1_arg1 m c]

/-- The farthest patch. -/
theorem far_choice : ∃ ρ : Fin 784, (∀ j, Ref.worst (F := Ideal) (nears m c) j = BitVec.ofNat 32 ρ.val)
    ∧ extractAt ![0, 0, 0] (k0_pay3 (U1 m c main_arg0) (Region0.state (U1 m) c 50).1) inpos_S1x1x1_p0_0_0 = BitVec.ofNat 32 ρ.val
    ∧ (∀ i, U2 m c main_v0_1 i = BitVec.ofNat 32 ρ.val) := by
  have hp : ∀ t, Region0.patches (U1 m) c t = U1 m c main_arg0 := patches_eq (U1 m) c
  obtain ⟨ρ, hρ⟩ := exists_first (fun _ => True) (fun r : Fin 784 => - nears m c (ix1 r)) ⟨0, trivial⟩
  obtain ⟨κ, hκ⟩ := exists_first (fun _ => True) (fun k => dists m c (ix2 ρ k)) ⟨0, trivial⟩
  have hbot : ⊥ < nears m c (ix1 ρ) := by
    have h1 : dists m c (ix2 ρ κ) ≤ nears m c (ix1 ρ) := (nearest_at _ ρ _).mpr fun k => hκ.le trivial
    rw [dists_at] at h1
    exact lt_of_lt_of_le (bot_lt_length _ _) h1
  have hfar : extractAt ![0, 0, 0] (k0_pay3 (U1 m c main_arg0) (Region0.state (U1 m) c 50).1) inpos_S1x1x1_p0_0_0 = BitVec.ofNat 32 ρ.val := by
    refine far_patch _ _ ρ ?_
    have e : (fun r : Fin 784 => - k0_pay2 (U1 m c main_arg0) (Region0.state (U1 m) c 50).1 (ix2 r 0)) = fun r => - nears m c (ix1 r) := by
      funext r
      have := dist_eq m c r
      rw [U2_dist m c hp] at this
      rw [this]
    rw [e]
    exact hρ
  exact ⟨ρ, Picks.worst_at (nears m c) ρ hρ hbot, hfar, fun i => by rw [U2_far m c hp]; exact hfar⟩

variable (hc : Cert.Pre_clear_of_clamp.fn (F := Ideal) (A m c) (B m c) = fun _ => 1#1)
  (ρ : Fin 784) (hr : ∀ k, IsReal (A m c (ix2 ρ k))) (hw : ∀ j, Ref.worst (F := Ideal) (nears m c) j = BitVec.ofNat 32 ρ.val)
  (hn : extractAt ![0, 0, 0] (k0_pay3 (U1 m c main_arg0) (Region0.state (U1 m) c 50).1) inpos_S1x1x1_p0_0_0 = BitVec.ofNat 32 ρ.val)
include hc hr

/-- The final state holds the farthest patch's first nearest row. -/
theorem last_state (κ : Fin 100000) (h : First (fun _ => True) (gap (A m c) (B m c) ρ) κ) :
    (Region0.state (U1 m) c 50).2 (ix2 ρ 0) = BitVec.ofNat 32 κ.val := by
  obtain ⟨hb, -, -⟩ := Clear.clear _ _ hc
  refine (state_first (U1 m) c ρ (fun k => by rw [gaps_eq]; exact (gap_real hr hb k).lt_top) 50 le_rfl κ ?_).2
  rw [gaps_eq]
  exact ⟨by have := κ.isLt; omega, fun q _ hq => h.2 q trivial hq⟩

include hw

theorem first_distance (κ : Fin 100000) (h : First (fun _ => True) (gap (A m c) (B m c) ρ) κ) :
    First (fun _ => True) (fun k => dists m c (ix2 ρ k)) κ := by
  obtain ⟨hb, hf, -⟩ := Clear.clear _ _ hc
  have free : ∀ k, Free (gap (A m c) (B m c) ρ k + norm2 (A m c) ρ) := fun k => by
    have e := hf k
    rw [rowSquares_at] at e
    unfold gap norm2 Near.inner at e ⊢
    simp only [Picks.patchRow_at (A m c) _ ρ hw] at e
    exact e
  refine h.same fun k l => ?_
  show _ ↔ dists m c (ix2 ρ k) < dists m c (ix2 ρ l)
  rw [dists_at, dists_at]
  exact length_lt (norm2_real hr) (gap_real hr hb k) (gap_real hr hb l) (free k) (free l)

include hn

/-- Its nearest row. -/
theorem star_choice : ∃ κ : Fin 100000, (∀ k, starred m c (ix2 0 k) = B m c (ix2 κ k)) ∧ (∀ i, U2 m c main_v0_2 i = BitVec.ofNat 32 κ.val) := by
  obtain ⟨hb, -, -⟩ := Clear.clear _ _ hc
  obtain ⟨κ, hκ⟩ := exists_first (fun _ => True) (gap (A m c) (B m c) ρ) ⟨0, trivial⟩
  have hk := Picks.nearestRow_at (dists m c) ρ κ (first_distance m c hc ρ hr hw κ hκ)
    (by rw [dists_at]; exact (length_real (norm2_real hr) (gap_real hr hb κ)).lt_top)
  refine ⟨κ, fun k => ?_, fun i => ?_⟩
  · exact Picks.memoryRow_at (B m c) _ κ (fun i => (Picks.starRow_at _ _ ρ hw i).trans hk) k
  · rw [U2_near m c (patches_eq (U1 m) c)]
    exact (far_row _ _ _ ρ hn).trans (last_state m c hc ρ hr κ hκ)

/-- The second region's query is the star row. -/
theorem query_star : U3 m c main_v5 = starred m c := by
  obtain ⟨κ, hs, hk⟩ := star_choice m c hc ρ hr hw hn
  funext i
  obtain ⟨k, rfl⟩ := row_place i
  refine Eq.trans ?_ (hs k).symm
  rw [U3_query, U2_arg1]
  exact slot_at _ _ κ hk _

theorem star_real (i) : IsReal (starred m c i) := by
  obtain ⟨hb, -, -⟩ := Clear.clear _ _ hc
  obtain ⟨κ, hs, -⟩ := star_choice m c hc ρ hr hw hn
  obtain ⟨k, rfl⟩ := row_place i
  rw [hs]
  exact hb _

/-- The three rows nearest the star row. -/
theorem three_choice : ∃ σ : Fin 3 → Fin 100000,
    (∀ i, Ref.three (F := Ideal) (Ref.rowDistances (F := Ideal) (starred m c) (B m c)) (ix2 0 i) = BitVec.ofNat 32 (σ i).val)
    ∧ (∀ i, U4 m c main_v6_0 i = BitVec.ofNat 32 (σ 1).val) ∧ (∀ i, U4 m c main_v6_1 i = BitVec.ofNat 32 (σ 2).val) := by
  obtain ⟨hb, -, hf⟩ := Clear.clear _ _ hc
  have hs := star_real m c hc ρ hr hw hn
  have hq := query_star m c hc ρ hr hw hn
  have hg : ∀ k, IsReal (gap (n := 1) (starred m c) (B m c) 0 k) := gap_real (fun _ => hs _) hb
  have ho : ∀ k l, gap (n := 1) (starred m c) (B m c) 0 k < gap (n := 1) (starred m c) (B m c) 0 l
      ↔ Ref.rowDistances (F := Ideal) (starred m c) (B m c) (ix2 0 k) < Ref.rowDistances (F := Ideal) (starred m c) (B m c) (ix2 0 l) := fun k l => by
    have fk := hf k
    have fl := hf l
    rw [rowSquares_at] at fk fl
    rw [rowDistance_at, rowDistance_at]
    exact length_lt (norm2_real fun _ => hs _) (hg k) (hg l) fk fl
  obtain ⟨x, h0⟩ := exists_first (fun _ => True) (gap (n := 1) (starred m c) (B m c) 0) ⟨0, trivial⟩
  obtain ⟨y, h1⟩ := exists_first (fun q => q ≠ x) (gap (n := 1) (starred m c) (B m c) 0) (by
    by_cases e : x = 0
    · exact ⟨1, by rw [e]; decide⟩
    · exact ⟨0, Ne.symm e⟩)
  obtain ⟨z, h2⟩ := exists_first (fun q => q ≠ x ∧ q ≠ y) (gap (n := 1) (starred m c) (B m c) 0) (by
    by_contra hn
    push Not at hn
    have n0 := hn 0
    have n1 := hn 1
    have n2 := hn 2
    by_cases e0 : (0 : Fin 100000) = x <;> by_cases e1 : (1 : Fin 100000) = x <;> by_cases e2 : (2 : Fin 100000) = x <;>
      simp_all [Fin.ext_iff] <;> omega)
  refine ⟨![x, y, z], Picks.three_at _ _ (h0.same ho) (h1.same ho) (h2.same ho), ?_⟩
  have hw := three_words (U3 m) c ![x, y, z] (gap (n := 1) (starred m c) (B m c) 0) (by rw [← hq]; rw [show U3 m c (Proc.devRef .tc main_arg1) = B m c from U3_arg1 m c])
    (fun k => (hg k).lt_top) h0 h1 h2
  exact ⟨fun i => by rw [U4_second]; exact hw.1, fun i => by rw [U4_third]; exact hw.2⟩

omit hr hw hn in
/-- The kernel's score is the reference's. -/
theorem score_eq : U7 m c main_v19 = Ref.score (F := Ideal) (A m c) (B m c) := by
  obtain ⟨ρ, hw, hn, hfar⟩ := far_choice m c
  funext i
  have grid : ∀ h w : Fin 28, U5 m c main_v17 (ix2 h w) = nears m c (ix1 (Value.gridPlace h w)) := fun h w => by
    refine Eq.trans ?_ (dist_eq m c _)
    rw [U5_grid]
    generalize U2 m c main_v0_0 = d
    pointwise
    rfl
  have near : ∀ q : FVec Ideal ⟨2, ![2, 384]⟩ .f32, q = Ref.neighbours (F := Ideal) (B m c) (Ref.two (Ref.three (F := Ideal) (Ref.rowDistances (F := Ideal) (starred m c) (B m c)))) →
      Value.far (fun k => A m c (ix2 ρ k)) (fun k => U5 m c main_v11 (ix2 0 k)) = Value.far (fun k => A m c (ix2 ρ k)) (fun k => q (ix2 0 k))
      ∧ Value.far (fun k => A m c (ix2 ρ k)) (fun k => U5 m c main_v16 (ix2 0 k)) = Value.far (fun k => A m c (ix2 ρ k)) (fun k => q (ix2 1 k)) := by
    intro q hq
    by_cases hr : ∀ k, IsReal (A m c (ix2 ρ k))
    · obtain ⟨σ, ht, h1, h2⟩ := three_choice m c hc ρ hr hw hn
      refine ⟨congrArg _ (funext fun k => ?_), congrArg _ (funext fun k => ?_)⟩
      · rw [hq, Picks.neighbours_at (B m c) _ 0 (σ 1) ((Picks.two_at _ 0).trans (ht 1)), U5_second, U4_arg1]
        exact slot_at _ _ (σ 1) h1 k
      · rw [hq, Picks.neighbours_at (B m c) _ 1 (σ 2) ((Picks.two_at _ 1).trans (ht 2)), U5_third, U4_arg1]
        exact slot_at _ _ (σ 2) h2 k
    · push Not at hr
      obtain ⟨k, hk⟩ := hr
      have top := Value.far_top (p := fun k => A m c (ix2 ρ k)) hk
      exact ⟨(top _).trans (top _).symm, (top _).trans (top _).symm⟩
  have val := Value.score_value (U5 m c main_v17) (nears m c) grid (A m c) ρ (U5 m c main_v11) (U5 m c main_v16)
    (Ref.patchRow (F := Ideal) (A m c) (Ref.worst (F := Ideal) (nears m c))) _ (fun k => Picks.patchRow_at _ _ ρ hw k) (near _ rfl).1 (near _ rfl).2 i
  refine Eq.trans (b := k2_pay1 (k2_pay4 (U5 m c main_v17)) (k2_pay5 (U5 m c main_v17)) (k2_pay6 (A m c) (BitVec.ofNat 32 ρ.val) (U5 m c main_v11) (U5 m c main_v16))) ?_ val
  rw [U7_score, U6_score]
  show k2_pay1 (k2_pay4 (U5 m c main_v17)) (k2_pay5 (U5 m c main_v17)) (k2_pay6 (U5 m c main_arg0) (U5 m c main_v0_1 Region2.origin) (U5 m c main_v11) (U5 m c main_v16)) = _
  rw [U5_far, hfar, U5_arg0]

end Choice

end Cert.Proof.Run

namespace Cert.Proof

open Idealize.ShloMosaic Idealize.ShloMosaic.TcCoe Idealize.SL.Sem

/-- Under the precondition both results agree. -/
theorem algebraic_pre : Cert.algebraic_KernelIdeal_ReferenceIdeal_pre_clear_of_clamp := by
  intro m ρ m' ρ' hpre hagree
  refine ⟨fun c => Run.U7 m c Cert.KernelIdeal.main_v19, fun c => Run.U7 m c Cert.KernelIdeal.main_v20,
    (θ_run Cert.KernelIdeal.defs _ _).mono (fun r h c => h.1 c) (Run.run_read (F := Ideal) m ρ),
    (θ_run Cert.ReferenceIdeal.defs _ _).mono (fun r h c => ⟨(h.1 c).1.trans ?_, (h.1 c).2.1.trans ?_, (h.1 c).2.2⟩)
      (Ref.run (F := Ideal) m' ρ')⟩
  · rw [(hagree c).1, (hagree c).2]
    exact (Run.score_eq m c (hpre c)).symm
  · rw [(hagree c).1, (hagree c).2]
    exact (Run.map_eq m c).symm

end Cert.Proof

end
-- ==== Proof.lean ====
/-
  The certificate: the side conditions of the programs, then each claim from its own module.
-/
module

public import proofs.«01_k».proof.Proof.Frames
public import proofs.«01_k».proof.Proof.Segm
public import proofs.«01_k».proof.Proof.Score
public import proofs.«01_k».proof.Proof.Gen.Kernel

@[expose] public section

namespace Cert.Proof

theorem claim : Cert.Claim :=
  ⟨Cert.Kernel.Gen.facts, Cert.KernelIdeal.Gen.facts, Cert.ReferenceIdeal.Gen.facts, factsPre, factsOn,
    frame_Kernel, frame_KernelIdeal, frame_KernelIdeal_pre, frame_ReferenceIdeal, frame_ReferenceIdeal_pre,
    preserves, algebraic_on_segm, algebraic_pre⟩

end Cert.Proof
